-- ==== Defs.lean ====
def Pre_Kernel (m : (ℓ : Loc Cert.Kernel.nD Cert.Kernel.τ Cert.Kernel.sig) → Buf (Elt Bits) ℓ) : Prop :=
  True

def Pre_Scored (m : (ℓ : Loc Cert.Scored.nD Cert.Scored.τ Cert.Scored.sig) → Buf (Elt Bits) ℓ) : Prop :=
  True

def Pre_ScoredIdeal (m : (ℓ : Loc Cert.ScoredIdeal.nD Cert.ScoredIdeal.τ Cert.ScoredIdeal.sig) → Buf (Elt Ideal) ℓ) : Prop :=
  True

def Pre_ScoredIdeal_zero_biases [hPre_zero_biases : Cert.Pre_zero_biases.Facts] (m : (ℓ : Loc Cert.ScoredIdeal.nD Cert.ScoredIdeal.τ Cert.ScoredIdeal.sig) → Buf (Elt Ideal) ℓ) : Prop :=
  ∀ c : Dev Cert.ScoredIdeal.nD,
    (Cert.Pre_zero_biases.fn (F := Ideal) (m ((c.tc : Thread Cert.ScoredIdeal.nD Cert.ScoredIdeal.τ).loc Cert.ScoredIdeal.main_arg0)) (m ((c.tc : Thread Cert.ScoredIdeal.nD Cert.ScoredIdeal.τ).loc Cert.ScoredIdeal.main_arg1)) (m ((c.tc : Thread Cert.ScoredIdeal.nD Cert.ScoredIdeal.τ).loc Cert.ScoredIdeal.main_arg2)) (m ((c.tc : Thread Cert.ScoredIdeal.nD Cert.ScoredIdeal.τ).loc Cert.ScoredIdeal.main_arg3)) (m ((c.tc : Thread Cert.ScoredIdeal.nD Cert.ScoredIdeal.τ).loc Cert.ScoredIdeal.main_arg4)) (m ((c.tc : Thread Cert.ScoredIdeal.nD Cert.ScoredIdeal.τ).loc Cert.ScoredIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Scored [hScored : Cert.Scored.Facts] : Prop :=
  ∀ (m : (ℓ : Loc Cert.Scored.nD Cert.Scored.τ Cert.Scored.sig) → Buf (Elt Bits) ℓ) (g : Dev Cert.Scored.nD → PrngReg), Pre_Scored m →
    θ_run (Cert.Scored.defs (F := Bits)) (onTc (τ := Cert.Scored.τ) (Cert.Scored.main (F := Bits))) ⟨m, fun _ => 0, g⟩ (fun r => (∀ c : Dev Cert.Scored.nD,
      r.2.mem ((c.tc : Thread Cert.Scored.nD Cert.Scored.τ).loc Cert.Scored.main_arg0) = m ((c.tc : Thread Cert.Scored.nD Cert.Scored.τ).loc Cert.Scored.main_arg0)
      ∧ r.2.mem ((c.tc : Thread Cert.Scored.nD Cert.Scored.τ).loc Cert.Scored.main_arg1) = m ((c.tc : Thread Cert.Scored.nD Cert.Scored.τ).loc Cert.Scored.main_arg1)
      ∧ r.2.mem ((c.tc : Thread Cert.Scored.nD Cert.Scored.τ).loc Cert.Scored.main_arg2) = m ((c.tc : Thread Cert.Scored.nD Cert.Scored.τ).loc Cert.Scored.main_arg2)
      ∧ r.2.mem ((c.tc : Thread Cert.Scored.nD Cert.Scored.τ).loc Cert.Scored.main_arg3) = m ((c.tc : Thread Cert.Scored.nD Cert.Scored.τ).loc Cert.Scored.main_arg3)
      ∧ r.2.mem ((c.tc : Thread Cert.Scored.nD Cert.Scored.τ).loc Cert.Scored.main_arg4) = m ((c.tc : Thread Cert.Scored.nD Cert.Scored.τ).loc Cert.Scored.main_arg4)
      ∧ r.2.mem ((c.tc : Thread Cert.Scored.nD Cert.Scored.τ).loc Cert.Scored.main_arg5) = m ((c.tc : Thread Cert.Scored.nD Cert.Scored.τ).loc Cert.Scored.main_arg5))
      ∧ r.2.sem = fun _ => 0)

def quiescent_ScoredIdeal [hScoredIdeal : Cert.ScoredIdeal.Facts] : Prop :=
  ∀ (m : (ℓ : Loc Cert.ScoredIdeal.nD Cert.ScoredIdeal.τ Cert.ScoredIdeal.sig) → Buf (Elt Ideal) ℓ) (g : Dev Cert.ScoredIdeal.nD → PrngReg), Pre_ScoredIdeal m →
    θ_run (Cert.ScoredIdeal.defs (F := Ideal)) (onTc (τ := Cert.ScoredIdeal.τ) (Cert.ScoredIdeal.main (F := Ideal))) ⟨m, fun _ => 0, g⟩ (fun r => (∀ c : Dev Cert.ScoredIdeal.nD,
      r.2.mem ((c.tc : Thread Cert.ScoredIdeal.nD Cert.ScoredIdeal.τ).loc Cert.ScoredIdeal.main_arg0) = m ((c.tc : Thread Cert.ScoredIdeal.nD Cert.ScoredIdeal.τ).loc Cert.ScoredIdeal.main_arg0)
      ∧ r.2.mem ((c.tc : Thread Cert.ScoredIdeal.nD Cert.ScoredIdeal.τ).loc Cert.ScoredIdeal.main_arg1) = m ((c.tc : Thread Cert.ScoredIdeal.nD Cert.ScoredIdeal.τ).loc Cert.ScoredIdeal.main_arg1)
      ∧ r.2.mem ((c.tc : Thread Cert.ScoredIdeal.nD Cert.ScoredIdeal.τ).loc Cert.ScoredIdeal.main_arg2) = m ((c.tc : Thread Cert.ScoredIdeal.nD Cert.ScoredIdeal.τ).loc Cert.ScoredIdeal.main_arg2)
      ∧ r.2.mem ((c.tc : Thread Cert.ScoredIdeal.nD Cert.ScoredIdeal.τ).loc Cert.ScoredIdeal.main_arg3) = m ((c.tc : Thread Cert.ScoredIdeal.nD Cert.ScoredIdeal.τ).loc Cert.ScoredIdeal.main_arg3)
      ∧ r.2.mem ((c.tc : Thread Cert.ScoredIdeal.nD Cert.ScoredIdeal.τ).loc Cert.ScoredIdeal.main_arg4) = m ((c.tc : Thread Cert.ScoredIdeal.nD Cert.ScoredIdeal.τ).loc Cert.ScoredIdeal.main_arg4)
      ∧ r.2.mem ((c.tc : Thread Cert.ScoredIdeal.nD Cert.ScoredIdeal.τ).loc Cert.ScoredIdeal.main_arg5) = m ((c.tc : Thread Cert.ScoredIdeal.nD Cert.ScoredIdeal.τ).loc Cert.ScoredIdeal.main_arg5))
      ∧ r.2.sem = fun _ => 0)

def quiescent_ScoredIdeal_pre_zero_biases [hScoredIdeal : Cert.ScoredIdeal.Facts] [hPre_zero_biases : Cert.Pre_zero_biases.Facts] : Prop :=
  ∀ (m : (ℓ : Loc Cert.ScoredIdeal.nD Cert.ScoredIdeal.τ Cert.ScoredIdeal.sig) → Buf (Elt Ideal) ℓ) (g : Dev Cert.ScoredIdeal.nD → PrngReg), Pre_ScoredIdeal_zero_biases m →
    θ_run (Cert.ScoredIdeal.defs (F := Ideal)) (onTc (τ := Cert.ScoredIdeal.τ) (Cert.ScoredIdeal.main (F := Ideal))) ⟨m, fun _ => 0, g⟩ (fun r => (∀ c : Dev Cert.ScoredIdeal.nD,
      r.2.mem ((c.tc : Thread Cert.ScoredIdeal.nD Cert.ScoredIdeal.τ).loc Cert.ScoredIdeal.main_arg0) = m ((c.tc : Thread Cert.ScoredIdeal.nD Cert.ScoredIdeal.τ).loc Cert.ScoredIdeal.main_arg0)
      ∧ r.2.mem ((c.tc : Thread Cert.ScoredIdeal.nD Cert.ScoredIdeal.τ).loc Cert.ScoredIdeal.main_arg1) = m ((c.tc : Thread Cert.ScoredIdeal.nD Cert.ScoredIdeal.τ).loc Cert.ScoredIdeal.main_arg1)
      ∧ r.2.mem ((c.tc : Thread Cert.ScoredIdeal.nD Cert.ScoredIdeal.τ).loc Cert.ScoredIdeal.main_arg2) = m ((c.tc : Thread Cert.ScoredIdeal.nD Cert.ScoredIdeal.τ).loc Cert.ScoredIdeal.main_arg2)
      ∧ r.2.mem ((c.tc : Thread Cert.ScoredIdeal.nD Cert.ScoredIdeal.τ).loc Cert.ScoredIdeal.main_arg3) = m ((c.tc : Thread Cert.ScoredIdeal.nD Cert.ScoredIdeal.τ).loc Cert.ScoredIdeal.main_arg3)
      ∧ r.2.mem ((c.tc : Thread Cert.ScoredIdeal.nD Cert.ScoredIdeal.τ).loc Cert.ScoredIdeal.main_arg4) = m ((c.tc : Thread Cert.ScoredIdeal.nD Cert.ScoredIdeal.τ).loc Cert.ScoredIdeal.main_arg4)
      ∧ r.2.mem ((c.tc : Thread Cert.ScoredIdeal.nD Cert.ScoredIdeal.τ).loc Cert.ScoredIdeal.main_arg5) = m ((c.tc : Thread Cert.ScoredIdeal.nD Cert.ScoredIdeal.τ).loc Cert.ScoredIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def bitexact_Kernel_Scored [hKernel : Cert.Kernel.Facts] [hScored : Cert.Scored.Facts] : Prop :=
  ∀ (m : (ℓ : Loc Cert.Kernel.nD Cert.Kernel.τ Cert.Kernel.sig) → Buf (Elt Bits) ℓ) (g : Dev Cert.Kernel.nD → PrngReg)
    (m' : (ℓ : Loc Cert.Scored.nD Cert.Scored.τ Cert.Scored.sig) → Buf (Elt Bits) ℓ) (g' : Dev Cert.Scored.nD → PrngReg), Pre_Kernel m →
    (∀ c : Dev Cert.Kernel.nD,
      m' ((c.tc : Thread Cert.Scored.nD Cert.Scored.τ).loc Cert.Scored.main_arg0) = m ((c.tc : Thread Cert.Kernel.nD Cert.Kernel.τ).loc Cert.Kernel.main_arg0)
      ∧ m' ((c.tc : Thread Cert.Scored.nD Cert.Scored.τ).loc Cert.Scored.main_arg1) = m ((c.tc : Thread Cert.Kernel.nD Cert.Kernel.τ).loc Cert.Kernel.main_arg1)
      ∧ m' ((c.tc : Thread Cert.Scored.nD Cert.Scored.τ).loc Cert.Scored.main_arg2) = m ((c.tc : Thread Cert.Kernel.nD Cert.Kernel.τ).loc Cert.Kernel.main_arg2)
      ∧ m' ((c.tc : Thread Cert.Scored.nD Cert.Scored.τ).loc Cert.Scored.main_arg3) = m ((c.tc : Thread Cert.Kernel.nD Cert.Kernel.τ).loc Cert.Kernel.main_arg3)
      ∧ m' ((c.tc : Thread Cert.Scored.nD Cert.Scored.τ).loc Cert.Scored.main_arg4) = m ((c.tc : Thread Cert.Kernel.nD Cert.Kernel.τ).loc Cert.Kernel.main_arg4)
      ∧ m' ((c.tc : Thread Cert.Scored.nD Cert.Scored.τ).loc Cert.Scored.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Scored.defs (F := Bits)) (onTc (τ := Cert.Scored.τ) (Cert.Scored.main (F := Bits))) ⟨m', fun _ => 0, g'⟩ (fun r => ∀ c : Dev Cert.Scored.nD,
          r.2.mem ((c.tc : Thread Cert.Scored.nD Cert.Scored.τ).loc Cert.Scored.main_v28) = v0 c
          ∧ r.2.mem ((c.tc : Thread Cert.Scored.nD Cert.Scored.τ).loc Cert.Scored.main_arg0) = m' ((c.tc : Thread Cert.Scored.nD Cert.Scored.τ).loc Cert.Scored.main_arg0)
          ∧ r.2.mem ((c.tc : Thread Cert.Scored.nD Cert.Scored.τ).loc Cert.Scored.main_arg1) = m' ((c.tc : Thread Cert.Scored.nD Cert.Scored.τ).loc Cert.Scored.main_arg1)
          ∧ r.2.mem ((c.tc : Thread Cert.Scored.nD Cert.Scored.τ).loc Cert.Scored.main_arg2) = m' ((c.tc : Thread Cert.Scored.nD Cert.Scored.τ).loc Cert.Scored.main_arg2)
          ∧ r.2.mem ((c.tc : Thread Cert.Scored.nD Cert.Scored.τ).loc Cert.Scored.main_arg3) = m' ((c.tc : Thread Cert.Scored.nD Cert.Scored.τ).loc Cert.Scored.main_arg3)
          ∧ r.2.mem ((c.tc : Thread Cert.Scored.nD Cert.Scored.τ).loc Cert.Scored.main_arg4) = m' ((c.tc : Thread Cert.Scored.nD Cert.Scored.τ).loc Cert.Scored.main_arg4)
          ∧ r.2.mem ((c.tc : Thread Cert.Scored.nD Cert.Scored.τ).loc Cert.Scored.main_arg5) = m' ((c.tc : Thread Cert.Scored.nD Cert.Scored.τ).loc Cert.Scored.main_arg5))

def preserves_Scored_ScoredIdeal : Prop :=
  True

def algebraic_ScoredIdeal_ReferenceIdeal_pre_zero_biases [hScoredIdeal : Cert.ScoredIdeal.Facts] [hReferenceIdeal : Cert.ReferenceIdeal.Facts] [hPre_zero_biases : Cert.Pre_zero_biases.Facts] : Prop :=
  ∀ (m : (ℓ : Loc Cert.ScoredIdeal.nD Cert.ScoredIdeal.τ Cert.ScoredIdeal.sig) → Buf (Elt Ideal) ℓ) (g : Dev Cert.ScoredIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ScoredIdeal_zero_biases m →
    (∀ c : Dev Cert.ScoredIdeal.nD,
      m' ((c.tc : Thread Cert.ReferenceIdeal.nD Cert.ReferenceIdeal.τ).loc Cert.ReferenceIdeal.main_arg0) = m ((c.tc : Thread Cert.ScoredIdeal.nD Cert.ScoredIdeal.τ).loc Cert.ScoredIdeal.main_arg0)
      ∧ m' ((c.tc : Thread Cert.ReferenceIdeal.nD Cert.ReferenceIdeal.τ).loc Cert.ReferenceIdeal.main_arg1) = m ((c.tc : Thread Cert.ScoredIdeal.nD Cert.ScoredIdeal.τ).loc Cert.ScoredIdeal.main_arg1)
      ∧ m' ((c.tc : Thread Cert.ReferenceIdeal.nD Cert.ReferenceIdeal.τ).loc Cert.ReferenceIdeal.main_arg2) = m ((c.tc : Thread Cert.ScoredIdeal.nD Cert.ScoredIdeal.τ).loc Cert.ScoredIdeal.main_arg2)
      ∧ m' ((c.tc : Thread Cert.ReferenceIdeal.nD Cert.ReferenceIdeal.τ).loc Cert.ReferenceIdeal.main_arg3) = m ((c.tc : Thread Cert.ScoredIdeal.nD Cert.ScoredIdeal.τ).loc Cert.ScoredIdeal.main_arg3)
      ∧ m' ((c.tc : Thread Cert.ReferenceIdeal.nD Cert.ReferenceIdeal.τ).loc Cert.ReferenceIdeal.main_arg4) = m ((c.tc : Thread Cert.ScoredIdeal.nD Cert.ScoredIdeal.τ).loc Cert.ScoredIdeal.main_arg4)
      ∧ m' ((c.tc : Thread Cert.ReferenceIdeal.nD Cert.ReferenceIdeal.τ).loc Cert.ReferenceIdeal.main_arg5) = m ((c.tc : Thread Cert.ScoredIdeal.nD Cert.ScoredIdeal.τ).loc Cert.ScoredIdeal.main_arg5)) →
    ∃ (v0 : (c : Dev Cert.ScoredIdeal.nD) → Buf (Elt Ideal) ((c.tc : Thread Cert.ScoredIdeal.nD Cert.ScoredIdeal.τ).loc Cert.ScoredIdeal.main_v28)),
      θ_run (Cert.ScoredIdeal.defs (F := Ideal)) (onTc (τ := Cert.ScoredIdeal.τ) (Cert.ScoredIdeal.main (F := Ideal))) ⟨m, fun _ => 0, g⟩ (fun r => ∀ c : Dev Cert.ScoredIdeal.nD,
          r.2.mem ((c.tc : Thread Cert.ScoredIdeal.nD Cert.ScoredIdeal.τ).loc Cert.ScoredIdeal.main_v28) = v0 c
          ∧ r.2.mem ((c.tc : Thread Cert.ScoredIdeal.nD Cert.ScoredIdeal.τ).loc Cert.ScoredIdeal.main_arg0) = m ((c.tc : Thread Cert.ScoredIdeal.nD Cert.ScoredIdeal.τ).loc Cert.ScoredIdeal.main_arg0)
          ∧ r.2.mem ((c.tc : Thread Cert.ScoredIdeal.nD Cert.ScoredIdeal.τ).loc Cert.ScoredIdeal.main_arg1) = m ((c.tc : Thread Cert.ScoredIdeal.nD Cert.ScoredIdeal.τ).loc Cert.ScoredIdeal.main_arg1)
          ∧ r.2.mem ((c.tc : Thread Cert.ScoredIdeal.nD Cert.ScoredIdeal.τ).loc Cert.ScoredIdeal.main_arg2) = m ((c.tc : Thread Cert.ScoredIdeal.nD Cert.ScoredIdeal.τ).loc Cert.ScoredIdeal.main_arg2)
          ∧ r.2.mem ((c.tc : Thread Cert.ScoredIdeal.nD Cert.ScoredIdeal.τ).loc Cert.ScoredIdeal.main_arg3) = m ((c.tc : Thread Cert.ScoredIdeal.nD Cert.ScoredIdeal.τ).loc Cert.ScoredIdeal.main_arg3)
          ∧ r.2.mem ((c.tc : Thread Cert.ScoredIdeal.nD Cert.ScoredIdeal.τ).loc Cert.ScoredIdeal.main_arg4) = m ((c.tc : Thread Cert.ScoredIdeal.nD Cert.ScoredIdeal.τ).loc Cert.ScoredIdeal.main_arg4)
          ∧ r.2.mem ((c.tc : Thread Cert.ScoredIdeal.nD Cert.ScoredIdeal.τ).loc Cert.ScoredIdeal.main_arg5) = m ((c.tc : Thread Cert.ScoredIdeal.nD Cert.ScoredIdeal.τ).loc Cert.ScoredIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hScored : Cert.Scored.Facts) (hScoredIdeal : Cert.ScoredIdeal.Facts) (hReferenceIdeal : Cert.ReferenceIdeal.Facts) (hPre_zero_biases : Cert.Pre_zero_biases.Facts),
    quiescent_Kernel (hKernel := hKernel)
    ∧ quiescent_Scored (hScored := hScored)
    ∧ quiescent_ScoredIdeal (hScoredIdeal := hScoredIdeal)
    ∧ quiescent_ScoredIdeal_pre_zero_biases (hScoredIdeal := hScoredIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ bitexact_Kernel_Scored (hKernel := hKernel) (hScored := hScored)
    ∧ preserves_Scored_ScoredIdeal
    ∧ algebraic_ScoredIdeal_ReferenceIdeal_pre_zero_biases (hScoredIdeal := hScoredIdeal) (hReferenceIdeal := hReferenceIdeal) (hPre_zero_biases := hPre_zero_biases)
-- ==== Pre_zero_biases.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4x4096x2048 .f32) (main_arg1 : IVec S4x4096 32) (main_arg2 : FVec F S1024x2048 .f32) (main_arg3 : FVec F S1024 .f32) (main_arg4 : FVec F S1x1024 .f32) (main_arg5 : FVec F S1 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oeq main_arg3 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S1 .f32 := broadcastInDim S1 ![] bcast_S_S1 main_cst_0
  let main_v4 : IVec S1 1 := cmpf .oeq main_arg5 main_v3
  let main_c_1 : IVec S_ 1 := constantI S_ 1 1#1
  let main_v5 : IVec S_ 1 := (fun x v => Host.reduce IntOp.andi x v reducesTo_S1_S_d0 h_S_) main_v4 main_c_1
  let main_v6 : IVec S_ 1 := andi main_v2 main_v5
  main_v6
-- ==== Kernel.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S16384x2048 : Shape := ⟨2, ![16384, 2048]⟩
abbrev S4x4x1024 : Shape := ⟨3, ![4, 4, 1024]⟩
abbrev S16x1024 : Shape := ⟨2, ![16, 1024]⟩
abbrev S1024x1024 : Shape := ⟨2, ![1024, 1024]⟩
abbrev S4x1x1 : Shape := ⟨3, ![4, 1, 1]⟩
abbrev S4x4 : Shape := ⟨2, ![4, 4]⟩
abbrev S4x4x1 : Shape := ⟨3, ![4, 4, 1]⟩
abbrev S4x1 : Shape := ⟨2, ![4, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S16384x2048, .f32⟩
  | .hbm, ⟨7, _⟩ => ⟨S4x4x1024, .i32⟩
  | .hbm, ⟨8, _⟩ => ⟨S4x4x1024, .i32⟩
  | .hbm, ⟨9, _⟩ => ⟨S4x4096, .i32⟩
  | .local _ .vmem, ⟨0, _⟩ => ⟨S1024x2048, .f32⟩
  | .local _ .vmem, ⟨1, _⟩ => ⟨S1024x2048, .f32⟩
  | .local _ .vmem, ⟨2, _⟩ => ⟨S4x4x1024, .i32⟩
  | .local _ .vmem, ⟨3, _⟩ => ⟨S1024x2048, .f32⟩
  | .local _ .vmem, ⟨4, _⟩ => ⟨S1x1024, .f32⟩
  | .local _ .vmem, ⟨5, _⟩ => ⟨S4x4x1024, .i32⟩
  | .local _ .vmem, ⟨6, _⟩ => ⟨S16x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [BitOps F]

abbrev grid0 : Pipeline.Grid := ⟨1, ![16], ![false]⟩

def k0_off1 (i : grid0.Coords) : Fin 2 → Nat :=
  let arg0 : BitVec 32 := BitVec.ofNat 32 (i 0).val
  let v8 : Index := Scalar.indexCast arg0
  let c0_7 : Index := 0#32
  ![v8.toNat, 0]
def k0_cond1 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32 : BitVec 32 := 0#32
  let v14 : BitVec 1 := Scalar.cmpi .ne v13 c0_i32
  v14

@[reducible] def k0_t1_loop : Scf.Loop 32 :=
  let c0_i32_16 : BitVec 32 := 0#32
  let c34_i32 : BitVec 32 := 34#32
  let v36 : BitVec 32 := Scalar.addi c0_i32_16 c34_i32
  let c1_i32 : BitVec 32 := 1#32
  ⟨c0_i32_16, v36, c1_i32⟩
@[reducible] def k0_t2_loop : Scf.Loop 32 :=
  let c0_i32_20 : BitVec 32 := 0#32
  let c64_i32_21 : BitVec 32 := 64#32
  let v51 : BitVec 32 := Scalar.addi c0_i32_20 c64_i32_21
  let c1_i32_22 : BitVec 32 := 1#32
  ⟨c0_i32_20, v51, c1_i32_22⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Scored.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S16384x2048 : Shape := ⟨2, ![16384, 2048]⟩
abbrev S16x1x1024 : Shape := ⟨3, ![16, 1, 1024]⟩
abbrev S1x1x1024 : Shape := ⟨3, ![1, 1, 1024]⟩
abbrev S1024x1024 : Shape := ⟨2, ![1024, 1024]⟩
abbrev S_ : Shape := ⟨0, ![]⟩
abbrev S4x64 : Shape := ⟨2, ![4, 64]⟩
abbrev S4 : Shape := ⟨1, ![4]⟩
abbrev S4x1 : Shape := ⟨2, ![4, 1]⟩
abbrev S4x64x1 : Shape := ⟨3, ![4, 64, 1]⟩
abbrev S4x64x2 : Shape := ⟨3, ![4, 64, 2]⟩

abbrev nBuf : Space → Nat
  | .hbm => 49
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S16384x2048, .f32⟩
  | .hbm, ⟨7, _⟩ => ⟨S16x1x1024, .f32⟩
  | .hbm, ⟨8, _⟩ => ⟨S4x4096, .f32⟩
  | .hbm, ⟨9, _⟩ => ⟨S_, .i32⟩
  | .hbm, ⟨10, _⟩ => ⟨S4x4096, .i32⟩
  | .hbm, ⟨11, _⟩ => ⟨S4x4096, .i1⟩
  | .hbm, ⟨12, _⟩ => ⟨S4x4096, .i1⟩
  | .hbm, ⟨13, _⟩ => ⟨S_, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x64, .f32⟩
  | .hbm, ⟨18, _⟩ => ⟨S4x64, .i32⟩
  | .hbm, ⟨19, _⟩ => ⟨S_, .i32⟩
  | .hbm, ⟨20, _⟩ => ⟨S4x4096, .i32⟩
  | .hbm, ⟨21, _⟩ => ⟨S4, .i32⟩
  | .hbm, ⟨22, _⟩ => ⟨S4x1, .i32⟩
  | .hbm, ⟨23, _⟩ => ⟨S_, .i32⟩
  | .hbm, ⟨24, _⟩ => ⟨S4x1, .i32⟩
  | .hbm, ⟨25, _⟩ => ⟨S4x1, .i1⟩
  | .hbm, ⟨26, _⟩ => ⟨S_, .i32⟩
  | .hbm, ⟨27, _⟩ => ⟨S4x1, .i32⟩
  | .hbm, ⟨28, _⟩ => ⟨S4x1, .i32⟩
  | .hbm, ⟨29, _⟩ => ⟨S4x1, .i32⟩
  | .hbm, ⟨30, _⟩ => ⟨S_, .i32⟩
  | .hbm, ⟨31, _⟩ => ⟨S4x64, .i32⟩
  | .hbm, ⟨32, _⟩ => ⟨S4x64, .i1⟩
  | .hbm, ⟨33, _⟩ => ⟨S_, .i32⟩
  | .hbm, ⟨34, _⟩ => ⟨S4x64, .i32⟩
  | .hbm, ⟨35, _⟩ => ⟨S4x64, .i32⟩
  | .hbm, ⟨36, _⟩ => ⟨S4x64, .i32⟩
  | .hbm, ⟨37, _⟩ => ⟨S4x64, .i32⟩
  | .hbm, ⟨38, _⟩ => ⟨S4x64x1, .i32⟩
  | .hbm, ⟨39, _⟩ => ⟨S4x64x1, .i32⟩
  | .hbm, ⟨40, _⟩ => ⟨S4x64x2, .i32⟩
  | .hbm, ⟨41, _⟩ => ⟨S_, .i32⟩
  | .hbm, ⟨42, _⟩ => ⟨S4x64, .i32⟩
  | .hbm, ⟨43, _⟩ => ⟨S4x4096, .i32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S4, .i32⟩
  | .hbm, ⟨48, _⟩ => ⟨S4x4096, .i32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_values : Ref sig .tc := ⟨.hbm, 17, rfl⟩
abbrev main_indices : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x2048 : Shape := ⟨3, ![4, 4096, 2048]⟩
abbrev S4x4096 : Shape := ⟨2, ![4, 4096]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S2048x1024 : Shape := ⟨2, ![2048, 1024]⟩
abbrev S4x4096x1024 : Shape := ⟨3, ![4, 4096, 1024]⟩
abbrev S1x1x1024 : Shape := ⟨3, ![1, 1, 1024]⟩
abbrev S_ : Shape := ⟨0, ![]⟩
abbrev S1024x1 : Shape := ⟨2, ![1024, 1]⟩
abbrev S4x4096x1 : Shape := ⟨3, ![4, 4096, 1]⟩
abbrev S1x1x1 : Shape := ⟨3, ![1, 1, 1]⟩
abbrev S4x64 : Shape := ⟨2, ![4, 64]⟩
abbrev S4 : Shape := ⟨1, ![4]⟩
abbrev S4x1 : Shape := ⟨2, ![4, 1]⟩
abbrev S4x64x1 : Shape := ⟨3, ![4, 64, 1]⟩
abbrev S4x64x2 : Shape := ⟨3, ![4, 64, 2]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S2048x1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S1024x1, .f32⟩
  | .hbm, ⟨15, _⟩ => ⟨S4x4096x1, .f32⟩
  | .hbm, ⟨16, _⟩ => ⟨S1x1x1, .f32⟩
  | .hbm, ⟨17, _⟩ => ⟨S4x4096x1, .f32⟩
  | .hbm, ⟨18, _⟩ => ⟨S4x4096x1, .f32⟩
  | .hbm, ⟨19, _⟩ => ⟨S4x4096, .f32⟩
  | .hbm, ⟨20, _⟩ => ⟨S_, .i32⟩
  | .hbm, ⟨21, _⟩ => ⟨S4x4096, .i32⟩
  | .hbm, ⟨22, _⟩ => ⟨S4x4096, .i1⟩
  | .hbm, ⟨23, _⟩ => ⟨S4x4096, .i1⟩
  | .hbm, ⟨24, _⟩ => ⟨S_, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x64, .f32⟩
  | .hbm, ⟨29, _⟩ => ⟨S4x64, .i32⟩
  | .hbm, ⟨30, _⟩ => ⟨S_, .i32⟩
  | .hbm, ⟨31, _⟩ => ⟨S4x4096, .i32⟩
  | .hbm, ⟨32, _⟩ => ⟨S4, .i32⟩
  | .hbm, ⟨33, _⟩ => ⟨S4x1, .i32⟩
  | .hbm, ⟨34, _⟩ => ⟨S_, .i32⟩
  | .hbm, ⟨35, _⟩ => ⟨S4x1, .i32⟩
  | .hbm, ⟨36, _⟩ => ⟨S4x1, .i1⟩
  | .hbm, ⟨37, _⟩ => ⟨S_, .i32⟩
  | .hbm, ⟨38, _⟩ => ⟨S4x1, .i32⟩
  | .hbm, ⟨39, _⟩ => ⟨S4x1, .i32⟩
  | .hbm, ⟨40, _⟩ => ⟨S4x1, .i32⟩
  | .hbm, ⟨41, _⟩ => ⟨S_, .i32⟩
  | .hbm, ⟨42, _⟩ => ⟨S4x64, .i32⟩
  | .hbm, ⟨43, _⟩ => ⟨S4x64, .i1⟩
  | .hbm, ⟨44, _⟩ => ⟨S_, .i32⟩
  | .hbm, ⟨45, _⟩ => ⟨S4x64, .i32⟩
  | .hbm, ⟨46, _⟩ => ⟨S4x64, .i32⟩
  | .hbm, ⟨47, _⟩ => ⟨S4x64, .i32⟩
  | .hbm, ⟨48, _⟩ => ⟨S4x64, .i32⟩
  | .hbm, ⟨49, _⟩ => ⟨S4x64x1, .i32⟩
  | .hbm, ⟨50, _⟩ => ⟨S4x64x1, .i32⟩
  | .hbm, ⟨51, _⟩ => ⟨S4x64x2, .i32⟩
  | .hbm, ⟨52, _⟩ => ⟨S_, .i32⟩
  | .hbm, ⟨53, _⟩ => ⟨S4x64, .i32⟩
  | .hbm, ⟨54, _⟩ => ⟨S4x4096, .i32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S4, .i32⟩
  | .hbm, ⟨59, _⟩ => ⟨S4x4096, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.KernelBody.lean ====
module

public import proofs.«01_k».proof.Proof.Gen.Kernel.Frame
public import proofs.«01_k».proof.Proof.Gen.Kernel.Loops
public import Idealize.ShloMosaic.Lib.WritesUnit
public import Idealize.ShloMosaic.Lib.ValueIdx
public import Idealize.ShloMosaic.Lib.Pipeline.Value
public import Idealize.ShloMosaic.Lib.WholeRead
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

/-- The last point's condition, over the points. -/
theorem cond1_iff : ∀ t : Fin cfg0.N, k0_cond1 (grid0.coords t) = 1#1 ↔ t.val = 15 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 15)

/-- The bisection over the key words: the low and the high end after its 34 trips. -/
def ends (v15 : Vec F S16x1024 .f32) (v17 : Vec F S4x4x1024 .i32) : IVec S4x1x1 32 × IVec S4x1x1 32 :=
  Scf.fold (n := k0_t1_loop.trips) (fun _ acc => (k0_pay9 v15 v17 acc.1 acc.2, k0_pay10 v15 v17 acc.1 acc.2)) (k0_pay5, k0_pay6)

/-- The tie loop at threshold `tau`: the mask and the number of ties taken after its 64 trips. -/
def ties (v15 : Vec F S16x1024 .f32) (v17 : Vec F S4x4x1024 .i32) (tau : IVec S4x1x1 32) : IVec S4x4x1024 32 × IVec S4x1x1 32 :=
  Scf.fold (n := k0_t2_loop.trips) (fun _ acc => (k0_pay15 v15 v17 tau acc.1 acc.2, k0_pay16 v15 v17 tau acc.2)) (k0_pay12 v15 v17 tau, k0_pay13)

/-- The mask that the last point stores, from the buffered scores and the attention mask. -/
def maskOf (v15 : Vec F S16x1024 .f32) (v17 : Vec F S4x4x1024 .i32) : IVec S4x4x1024 32 :=
  k0_pay2 k0_pay4 (ties v15 v17 (ends v15 v17).1).1

set_option maxHeartbeats 2000000 in
/-- The selection's part of the body: two whole loads, and the return of the two loops' values. -/
theorem part1_eq (i : grid0.Coords)
    (arg1 : Memref sig .tc .vmem S1024x2048 .f32) (harg1 : arg1.IsWhole) (arg2 : Memref sig .tc .vmem S4x4x1024 .i32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S4x4x1024 .i32) (harg5 : arg5.IsWhole) (arg6 : Memref sig .tc .vmem S16x1024 .f32) (harg6 : arg6.IsWhole)
    (hc : k0_cond1 i = 1#1) :
    k0_part1_skel (F := F) i arg1 harg1 arg2 harg2 arg3 harg3 arg4 harg4 arg5 harg5 arg6 harg6 hc = (do
      let v15 : Vec F S16x1024 .f32 ← Prog.lift (.load arg6 (Rect.unit (s := S16x1024) ![0, 0] S16x1024.size inb_S16x1024_S16x1024_0_0).toLoadRect (View.loadsAt_vmem h_S16x1024))
      let v17 : Vec F S4x4x1024 .i32 ← Prog.lift (.load arg2 (Rect.unit (s := S4x4x1024) ![0, 0, 0] S4x4x1024.size inb_S4x4x1024_S4x4x1024_0_0_0).toLoadRect (View.loadsAt_vmem h_S4x4x1024))
      pure ⟨k0_pay4, (ties v15 v17 (ends v15 v17).1).1⟩) := by
  unfold k0_part1_skel
  refine congrArg _ (funext fun v15 => congrArg _ (funext fun v17 => ?_))
  refine (Scf.for_pure_bind _ _ _ _ _ _ (fun _ acc => (k0_pay9 v15 v17 acc.1 acc.2, k0_pay10 v15 v17 acc.1 acc.2)) (fun _ _ => rfl) _).trans ?_
  exact (Scf.for_pure_bind _ _ _ _ _ _ (fun _ acc => (k0_pay15 v15 v17 (ends v15 v17).1 acc.1 acc.2, k0_pay16 v15 v17 (ends v15 v17).1 acc.2)) (fun _ _ => rfl) _)

set_option maxHeartbeats 2000000 in

theorem zero2 : (![0, 0] : Fin 2 → ℕ) = fun _ => 0 := by decide
theorem zero3 : (![0, 0, 0] : Fin 3 → ℕ) = fun _ => 0 := by decide

/-- A load through the whole rectangle reads the contents. -/
theorem readAt_zero {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-- The score buffer with row `n` set to `w`. -/
def setRow (n : ℕ) (w : Vec F S1x1024 .f32) (x : Vec F S16x1024 .f32) : Vec F S16x1024 .f32 :=
  fun y => if (y 0).val = n then w (ValueIdx.ix2 0 (y 1)) else x y

/-- One row stored over contents that read as `x`. -/
theorem read_store (arg6 : Memref sig .tc .vmem S16x1024 .f32) (harg6 : arg6.IsWhole) (i : grid0.Coords)
    (w : Vec F S1x1024 .f32) (x : Vec F S16x1024 .f32) :
    arg6.view.read (Elt F) (arg6.view.writes (Elt F) (harg6.unread x)
      [⟨Rect.unit (s := S16x1024) (k0_off1 i) S1x1024.size (k0_off1_inb i), w⟩]) = setRow (i 0).val w x := by
  funext y
  have hoff : k0_off1 i = ![(i 0).val, 0] := k0_off1_eq i
  unfold setRow
  split
  · rename_i h
    exact View.read_writes_cons_rows_of_mem arg6.view _ _ w [] y (ValueIdx.ix2 0 (y 1)) hoff (by simpa using h) rfl
  · rename_i h
    exact (View.read_writes_cons_rows_of_not_mem (W := 1) arg6.view _ _ w [] y hoff rfl (by omega)).trans (congrFun (harg6.read_unread x) y)

set_option maxHeartbeats 4000000 in
/-- A point before the last: one row of scores is stored, every block is given back. -/
theorem run_mid (c : Dev nD) (i : grid0.Coords)
    (arg1 : Memref sig .tc .vmem S1024x2048 .f32) (harg1 : arg1.IsWhole) (arg2 : Memref sig .tc .vmem S4x4x1024 .i32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S4x4x1024 .i32) (harg5 : arg5.IsWhole) (arg6 : Memref sig .tc .vmem S16x1024 .f32) (harg6 : arg6.IsWhole)
    (hc : ¬ k0_cond1 i = 1#1) (x1 : Vec F S1024x2048 .f32) (x2 : Vec F S4x4x1024 .i32) (x3 : Vec F S1024x2048 .f32) (x4 : Vec F S1x1024 .f32)
    (x5 : Vec F S4x4x1024 .i32) (x6 : Vec F S16x1024 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5
          ∗ owns (c : Thread nD τ) arg6 fullShare (setRow (i 0).val (k0_pay1 x1 x3 x4) x6)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg3.eq_unread hf3; obtain rfl := harg4.eq_unread hf4; obtain rfl := harg6.eq_unread hf6
  sl_exec (disch := sl_exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  refine Eq.trans ?_ (read_store arg6 harg6 i (k0_pay1 x1 x3 x4) x6)
  rw [readAt_zero _ zero2, readAt_zero _ zero2, readAt_zero _ zero2, harg1.read_unread, harg3.read_unread, harg4.read_unread]

set_option maxHeartbeats 4000000 in
/-- The last point: its row of scores is stored, and the mask from the whole buffer. -/
theorem run_last (c : Dev nD) (i : grid0.Coords)
    (arg1 : Memref sig .tc .vmem S1024x2048 .f32) (harg1 : arg1.IsWhole) (arg2 : Memref sig .tc .vmem S4x4x1024 .i32) (harg2 : arg2.IsWhole)
    (arg3 : Memref sig .tc .vmem S1024x2048 .f32) (harg3 : arg3.IsWhole) (arg4 : Memref sig .tc .vmem S1x1024 .f32) (harg4 : arg4.IsWhole)
    (arg5 : Memref sig .tc .vmem S4x4x1024 .i32) (harg5 : arg5.IsWhole) (arg6 : Memref sig .tc .vmem S16x1024 .f32) (harg6 : arg6.IsWhole)
    (hc : k0_cond1 i = 1#1) (x1 : Vec F S1024x2048 .f32) (x2 : Vec F S4x4x1024 .i32) (x3 : Vec F S1024x2048 .f32) (x4 : Vec F S1x1024 .f32)
    (x6 : Vec F S16x1024 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare x6
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare (maskOf (setRow (i 0).val (k0_pay1 x1 x3 x4) x6) x2)
          ∗ owns (c : Thread nD τ) arg6 fullShare (setRow (i 0).val (k0_pay1 x1 x3 x4) x6)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton, part1_eq]
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg6.eq_unread hf6
  sl_exec (disch := sl_exact hc)
  sl_step
  iapply Hk
  isplitl [H1]
  · iexists _; isplitr; · ipureintro; exact harg1.read_unread x1
    iexact H1
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr
    swap; · iexact H5
    ipureintro
    refine (View.read_writes_eq_canon _ _ _ (fun y => ⟨_, List.mem_singleton_self _, View.mem_set_unit_zero zero3 inb_S4x4x1024_S4x4x1024_0_0_0 y⟩)).trans ?_
    refine (View.canon_unit_zero zero3 _ _).trans ?_
    dsimp only [run_last.sl.v15, run_last.sl.H6_1, maskOf]
    rw [readAt_zero _ zero2, readAt_zero _ zero2, readAt_zero _ zero2, readAt_zero _ zero2, readAt_zero _ zero3, harg1.read_unread, harg2.read_unread, harg3.read_unread, harg4.read_unread, read_store]
  iexists _; isplitr
  swap; · iexact H6
  ipureintro
  refine Eq.trans ?_ (read_store arg6 harg6 i (k0_pay1 x1 x3 x4) x6)
  dsimp only [run_last.sl.H6_1]
  rw [readAt_zero _ zero2, readAt_zero _ zero2, readAt_zero _ zero2, harg1.read_unread, harg3.read_unread, harg4.read_unread]

end Cert.Kernel.Hand
end
-- ==== Proof.KernelRun.lean ====
/- The kernel's launch: the score buffer row by row, the body at every point, the run of @main and what the result array
   holds after it. -/
module

public import proofs.«01_k».proof.Proof.KernelBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The score buffer as a memref. -/
abbrev bufM : Memref sig .tc .vmem S16x1024 .f32 := Memref.whole cc0_scratch0

/-- The region's own state with the score buffer owned at some contents. -/
theorem PhiA_buf (c : Dev nD) :
    (Pipeline.ΦA spec0 c : sProp 𝕄) = iprop(iprop(∃ d, owns (c : Thread nD τ) bufM fullShare d) ∗ (∃ r, prngReg c r)) := by
  unfold Pipeline.ΦA; rw [scopedRest0_eq]; simp only [bufM, owns_whole]; try rfl

/-- The grid point that computes row `r` of the score buffer. -/
def pt (r : Fin 16) : Fin cfg0.N := r.cast N_0.symm

/-- All the scores: row `r` is what point `r` computes from its blocks. -/
def scr (c : Dev nD) : Vec F S16x1024 .f32 := fun y =>
  k0_pay1 (iblk m c 0 (pt (y 0))) (iblk m c 2 (pt (y 0))) (iblk m c 3 (pt (y 0))) (ValueIdx.ix2 0 (y 1))

/-- The first `n` rows of `f` are the scores. -/
def Upto (c : Dev nD) (n : ℕ) (f : Vec F S16x1024 .f32) : Prop := ∀ y : S16x1024.Idx, (y 0).val < n → f y = scr m c y

/-- The state before point `n`: the score buffer with its first `n` rows computed, and the generator register. -/
def PhiS (c : Dev nD) (n : ℕ) : sProp 𝕄 :=
  iprop(iprop(∃ d, ⌜Upto m c n d⌝ ∗ owns (c : Thread nD τ) bufM fullShare d) ∗ (∃ r, prngReg c r))

/-- The proof data: each input's block stays, the output's block is the mask from all the scores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => maskOf (scr m c) (iblk m c 1 t)
  Φ t := PhiS m c t.val
  q _ := fullShare
  owed _ := 0

/-- The arrays are the ones the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = maskOf (scr m c) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The state before a point and the state after it, by position. -/
theorem Phi_castSucc (c : Dev nD) (t : Fin cfg0.N) : (dats m 0 c).Φ t.castSucc = PhiS m c t.val := by
  dsimp only [dats]; rfl
theorem Phi_succ (c : Dev nD) (t : Fin cfg0.N) : (dats m 0 c).Φ t.succ = PhiS m c (t.val + 1) := by
  dsimp only [dats]; rfl

/-- Storing point `t`'s row extends the computed rows by one. -/
theorem Upto.step (c : Dev nD) (t : Fin cfg0.N) {f : Vec F S16x1024 .f32} (h : Upto m c t.val f) :
    Upto m c (t.val + 1) (setRow (grid0.coords t 0).val (k0_pay1 (iblk m c 0 t) (iblk m c 2 t) (iblk m c 3 t)) f) := by
  intro y hy
  have ht : t.val < 16 := Nat.lt_of_lt_of_eq t.isLt N_0
  have e0 : (grid0.coords t 0).val = t.val := by
    have e : (grid0.coords t 0).val = t.val / 1 % 16 := Pipeline.Grid.coords_val t 0 (by decide) rfl
    omega
  unfold setRow
  rw [e0]
  split
  · rename_i hr
    have : pt (y 0) = t := Fin.ext hr
    unfold scr; rw [this]
  · rename_i hr
    exact h y (by omega)

/-- With every row computed the buffer is the scores. -/
theorem Upto.all (c : Dev nD) {f : Vec F S16x1024 .f32} (h : Upto m c 16 f) : f = scr m c :=
  funext fun y => h y (y 0).isLt

/-- Each window's staging memref at a point. -/
abbrev ms_0 (t : Fin cfg0.N) : Memref sig .tc .vmem S1024x2048 .f32 := win0_0.stage (cfg0.slots t 0)
abbrev ms_1 (t : Fin cfg0.N) : Memref sig .tc .vmem S4x4x1024 .i32 := win0_1.stage (cfg0.slots t 1)
abbrev ms_2 (t : Fin cfg0.N) : Memref sig .tc .vmem S1024x2048 .f32 := win0_2.stage (cfg0.slots t 2)
abbrev ms_3 (t : Fin cfg0.N) : Memref sig .tc .vmem S1x1024 .f32 := win0_3.stage (cfg0.slots t 3)
abbrev ms_4 (t : Fin cfg0.N) : Memref sig .tc .vmem S4x4x1024 .i32 := win0_4.stage (cfg0.slots t 4)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (ms_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms_3 t) fullShare (iblk m c 3 t) := by
  unfold Dat.leavesExact; rw [show cfg0.idle 3 (cfg0.grid.coords t) = false from rfl, after_3]

/-- Before the last point the output's buffer is handed back as it came. -/
theorem leaves_4_mid (c : Dev nD) (t : Fin cfg0.N) (h : ¬ t.val = 15) :
    (dats m 0 c).leavesExact 4 t = iprop(∃ d, owns (c : Thread nD τ) (ms_4 t) fullShare ((dats m 0 c).before 4 t d)) := by
  have ht : t.val < 16 := Nat.lt_of_lt_of_eq t.isLt N_0
  refine (dats m 0 c).leavesExact_idle 4 t ?_ ?_
  · show (!(k0_cond1 (grid0.coords t) == 1#1)) = true
    rw [Bool.not_eq_true', beq_eq_false_iff_ne]
    exact fun e => h ((cond1_iff t).mp e)
  · rw [Bool.eq_false_iff]
    exact fun e => by have := (flush0_4 t).mp e; omega

/-- At the last point it holds the mask. -/
theorem leaves_4_last (c : Dev nD) (t : Fin cfg0.N) (h : t.val = 15) :
    (dats m 0 c).leavesExact 4 t = owns (c : Thread nD τ) (ms_4 t) fullShare (maskOf (scr m c) (iblk m c 1 t)) := by
  have e : cfg0.idle 4 (cfg0.grid.coords t) = false := by
    show (!(k0_cond1 (grid0.coords t) == 1#1)) = false
    rw [Bool.not_eq_false', beq_iff_eq]
    exact (cond1_iff t).mpr h
  unfold Dat.leavesExact; rw [e, after_4]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_castSucc, Phi_succ,
    leaves_0, leaves_1, leaves_2, leaves_3]
  unfold PhiS
  by_cases h : t.val = 15
  · rw [leaves_4_last m c t h]
    iintro ⟨⟨⟨%f, %hf, HS⟩, Hg⟩, Ho, ⟨%d0, H0⟩, ⟨%d1, H1⟩, ⟨%d2, H2⟩, ⟨%d3, H3⟩, ⟨%d4, H4⟩⟩
    have hs := Upto.step m c t hf
    have hall : setRow (grid0.coords t 0).val (k0_pay1 (iblk m c 0 t) (iblk m c 2 t) (iblk m c 3 t)) f = scr m c :=
      Upto.all m c (by rw [h] at hs; exact hs)
    iapply (run_last c (grid0.coords t) _ _ _ _ _ _ _ _ _ _ _ _ ((cond1_iff t).mpr h) (iblk m c 0 t) (iblk m c 1 t) (iblk m c 2 t) (iblk m c 3 t) f Set.univ _)
    rw [hall]
    rw [hall] at hs
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr; · ipureintro; exact hs
        iexact HS
      iexact Hg
    isplitl [Ho]; · iexact Ho
    isplitl [H0]; · iexact H0
    isplitl [H1]; · iexact H1
    isplitl [H2]; · iexact H2
    isplitl [H3]; · iexact H3
    iexact H4
  · rw [leaves_4_mid m c t h]
    iintro ⟨⟨⟨%f, %hf, HS⟩, Hg⟩, Ho, ⟨%d0, H0⟩, ⟨%d1, H1⟩, ⟨%d2, H2⟩, ⟨%d3, H3⟩, ⟨%d4, H4⟩⟩
    have hs := Upto.step m c t hf
    iapply (run_mid c (grid0.coords t) _ _ _ _ _ _ _ _ _ _ _ _ (fun e => h ((cond1_iff t).mp e)) (iblk m c 0 t) (iblk m c 1 t) (iblk m c 2 t) (iblk m c 3 t) _ f Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; · ipureintro; exact hs
        iexact HS
      iexact Hg
    isplitl [Ho]; · iexact Ho
    isplitl [H0]; · iexact H0
    isplitl [H1]; · iexact H1
    isplitl [H2]; · iexact H2
    isplitl [H3]; · iexact H3
    iexists _; iexact H4

/-- The body the pipeline calls at point `t`. -/
theorem row_eq (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- Before the first point no row is computed. -/
theorem hin (c : Dev nD) : Pipeline.ΦA spec0 c ⊢ (dats m 0 c).Φ 0 := by
  rw [show (dats m 0 c).Φ 0 = PhiS m c 0 from rfl, PhiA_buf]
  unfold PhiS
  iintro ⟨⟨%d, HS⟩, Hg⟩
  isplitl [HS]
  · iexists d; isplitr; · ipureintro; exact fun y hy => absurd hy (Nat.not_lt_zero _)
    iexact HS
  iexact Hg

/-- After the last point the buffer's contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiA_buf]
  unfold PhiS
  iintro ⟨⟨%d, %hd, HS⟩, Hg⟩
  isplitl [HS]
  · iexists d; iexact HS
  iexact Hg

set_option backward.isDefEq.respectTransparency.types false in
set_option maxHeartbeats 800000 in
/-- The launch: every execution of @main ends, with the arrays as the pipeline and the host lines after it leave them, and
    every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

end Cert.Kernel.Hand
end
-- ==== Proof.Select.lean ====
module

public import Idealize.ShloMosaic.Lib.SortFacts
public import Mathlib.Tactic.Ring
public import Mathlib.Tactic.Linarith
public import Mathlib.Tactic.NormNum
public import Mathlib.Tactic.Positivity

@[expose] public section

namespace Cert.Hand.Select

open Idealize.ShloMosaic

variable {n : Nat}

/-- Position `q` comes strictly before position `p` in the order of the selection: its key is larger as a signed
    word, or the keys are equal and it stands earlier. -/
def Ahead (key : Fin n → BitVec 32) (q p : Fin n) : Prop :=
  (key p).toInt < (key q).toInt ∨ (key q = key p ∧ q < p)

instance (key : Fin n → BitVec 32) (q p : Fin n) : Decidable (Ahead key q p) := by unfold Ahead; infer_instance

/-- The number of positions ahead of `p`. -/
def rank (key : Fin n → BitVec 32) (p : Fin n) : Nat := (Finset.univ.filter fun q => Ahead key q p).card

/-- The order is transitive. -/
theorem Ahead.trans {key : Fin n → BitVec 32} {a b c : Fin n} (h : Ahead key a b) (h' : Ahead key b c) :
    Ahead key a c := by
  unfold Ahead at *
  rcases h with h | ⟨e, l⟩ <;> rcases h' with h' | ⟨e', l'⟩
  · exact Or.inl (h'.trans h)
  · exact Or.inl (e' ▸ h)
  · exact Or.inl (e ▸ h')
  · exact Or.inr ⟨e.trans e', l.trans l'⟩

/-- No position is ahead of itself. -/
theorem Ahead.irrefl {key : Fin n → BitVec 32} (a : Fin n) : ¬ Ahead key a a := by
  unfold Ahead
  rintro (h | h)
  · exact lt_irrefl _ h
  · exact lt_irrefl _ h.2

/-- Comparing the keys by "greater, signed". -/
def byKey (key : Fin n → BitVec 32) (k k' : Fin n) : Bool := decide ((key k').toInt < (key k).toInt)

/-- Inserting a position that stands before all positions of a list sorted by the order keeps the list sorted. -/
theorem pairwise_insert (key : Fin n → BitVec 32) (a : Fin n) (l : List (Fin n)) (ha : ∀ b ∈ l, a < b)
    (hl : l.Pairwise (Ahead key)) : (insertBefore (byKey key) a l).Pairwise (Ahead key) := by
  induction l with
  | nil => exact List.pairwise_singleton _ _
  | cons b l ih =>
    rw [List.pairwise_cons] at hl
    unfold insertBefore
    split
    · rename_i hb
      have hba : Ahead key b a := Or.inl (of_decide_eq_true hb)
      refine List.pairwise_cons.mpr ⟨fun c hc => ?_, ih (fun c hc => ha c (List.mem_cons_of_mem _ hc)) hl.2⟩
      rcases List.mem_cons.mp ((perm_insertBefore _ a l).mem_iff.mp hc) with rfl | hc
      · exact hba
      · exact hl.1 c hc
    · rename_i hb
      have hab : Ahead key a b := by
        have h1 : ¬ (key a).toInt < (key b).toInt := fun h => hb (decide_eq_true h)
        rcases lt_or_eq_of_le (not_lt.mp h1) with h | h
        · exact Or.inl h
        · exact Or.inr ⟨(BitVec.eq_of_toInt_eq h).symm, ha b List.mem_cons_self⟩
      refine List.pairwise_cons.mpr ⟨fun c hc => ?_, List.pairwise_cons.mpr hl⟩
      rcases List.mem_cons.mp hc with rfl | hc
      · exact hab
      · exact hab.trans (hl.1 c hc)

/-- The stable sort of increasing positions by key is sorted by the order. -/
theorem pairwise_sort (key : Fin n → BitVec 32) (l : List (Fin n)) (hl : l.Pairwise (· < ·)) :
    (stableSort (byKey key) l).Pairwise (Ahead key) := by
  induction l with
  | nil => exact List.Pairwise.nil
  | cons a l ih =>
    rw [List.pairwise_cons] at hl
    unfold stableSort
    exact pairwise_insert key a _ (fun b hb => hl.1 b ((perm_stableSort _ l).mem_iff.mp hb)) (ih hl.2)

/-- Earlier sorted places hold positions that are ahead of those in later places. -/
theorem sortedFrom_ahead (key : Fin n → BitVec 32) (i j : Fin n) (h : i < j) :
    Ahead key (sortedFrom (byKey key) i) (sortedFrom (byKey key) j) := by
  have hp := List.pairwise_iff_get.mp (pairwise_sort key (List.finRange n) (List.pairwise_lt_finRange n))
  exact hp _ _ h

/-- The number of positions ahead of the one in sorted place `i` is `i`. -/
theorem rank_sortedFrom (key : Fin n → BitVec 32) (i : Fin n) : rank key (sortedFrom (byKey key) i) = i.val := by
  have e : (Finset.univ.filter fun q => Ahead key q (sortedFrom (byKey key) i))
      = (Finset.univ.filter fun j : Fin n => j < i).image (sortedFrom (byKey key)) := by
    ext q
    obtain ⟨j, rfl⟩ := sortedFrom_surjective (byKey key) q
    simp only [Finset.mem_filter, Finset.mem_univ, true_and, Finset.mem_image]
    constructor
    · intro h
      refine ⟨j, ?_, rfl⟩
      by_contra hj
      rcases lt_or_eq_of_le (not_lt.mp hj) with hlt | heq
      · exact Ahead.irrefl _ (h.trans (sortedFrom_ahead key i j hlt))
      · subst heq; exact Ahead.irrefl _ h
    · rintro ⟨k, hk, e⟩
      rw [← e]
      exact sortedFrom_ahead key k i hk
  unfold rank
  rw [e, Finset.card_image_of_injective _ (sortedFrom_injective _)]
  have : (Finset.univ.filter fun j : Fin n => j < i) = Finset.Iio i := by ext; simp
  rw [this, Fin.card_Iio]

/-- A position is among the first `K` of the sort exactly when fewer than `K` positions are ahead of it. -/
theorem exists_place_iff (key : Fin n → BitVec 32) (K : Nat) (p : Fin n) :
    (∃ i : Fin n, i.val < K ∧ sortedFrom (byKey key) i = p) ↔ rank key p < K := by
  constructor
  · rintro ⟨i, hi, rfl⟩
    rw [rank_sortedFrom]; exact hi
  · intro h
    obtain ⟨i, rfl⟩ := sortedFrom_surjective (byKey key) p
    rw [rank_sortedFrom] at h
    exact ⟨i, h, rfl⟩

/-! ## A threshold and the ties at it -/

/-- The number of positions whose key is at least `t`. -/
def atLeast (key : Fin n → BitVec 32) (t : Int) : Nat := (Finset.univ.filter fun q => t ≤ (key q).toInt).card

/-- The number of positions before `p` whose key is `tau`. -/
def tiesBefore (key : Fin n → BitVec 32) (tau : BitVec 32) (p : Fin n) : Nat :=
  (Finset.univ.filter fun q => key q = tau ∧ q < p).card

/-- With at least `K` keys from `tau` up and fewer than `K` above it, a position is among the first `K` exactly when its
    key is above `tau`, or equal to it with few enough equal ones before. -/
theorem rank_lt_iff (key : Fin n → BitVec 32) (K : Nat) (tau : BitVec 32) (h1 : K ≤ atLeast key tau.toInt)
    (h2 : atLeast key (tau.toInt + 1) < K) (p : Fin n) :
    rank key p < K ↔ (tau.toInt < (key p).toInt
      ∨ (key p = tau ∧ tiesBefore key tau p < K - atLeast key (tau.toInt + 1))) := by
  rcases lt_trichotomy (tau.toInt) (key p).toInt with h | h | h
  · refine iff_of_true (lt_of_le_of_lt (Finset.card_le_card fun q hq => ?_) h2) (Or.inl h)
    simp only [Finset.mem_filter, Finset.mem_univ, true_and] at hq ⊢
    rcases hq with hq | hq
    · omega
    · rw [hq.1]; omega
  · have hp : key p = tau := BitVec.eq_of_toInt_eq h.symm
    have e : rank key p = atLeast key (tau.toInt + 1) + tiesBefore key tau p := by
      unfold rank atLeast tiesBefore
      rw [← Finset.card_union_of_disjoint]
      · congr 1
        ext q
        simp only [Finset.mem_filter, Finset.mem_univ, true_and, Finset.mem_union, Ahead, hp]
        exact or_congr (by omega) Iff.rfl
      · rw [Finset.disjoint_left]
        intro q hq hq'
        simp only [Finset.mem_filter, Finset.mem_univ, true_and] at hq hq'
        rw [hq'.1] at hq
        omega
    rw [e]
    constructor
    · intro hlt; exact Or.inr ⟨hp, by omega⟩
    · rintro (hlt | ⟨_, hlt⟩) <;> omega
  · refine iff_of_false (fun hlt => ?_) (fun hor => ?_)
    · have : atLeast key tau.toInt ≤ rank key p := Finset.card_le_card fun q hq => by
        simp only [Finset.mem_filter, Finset.mem_univ, true_and] at hq ⊢
        exact Or.inl (by omega)
      omega
    · rcases hor with hor | hor
      · omega
      · rw [hor.1] at h; omega

/-- Fewer ties stand before an earlier tie. -/
theorem tiesBefore_lt (key : Fin n → BitVec 32) (tau : BitVec 32) {q p : Fin n} (hq : key q = tau) (h : q < p) :
    tiesBefore key tau q < tiesBefore key tau p := by
  refine Finset.card_lt_card ⟨fun x hx => ?_, fun hs => ?_⟩
  · simp only [Finset.mem_filter, Finset.mem_univ, true_and] at hx ⊢
    exact ⟨hx.1, hx.2.trans h⟩
  · have := hs (show q ∈ _ from by simp [hq, h])
    simp at this

/-- If all ties before `p` have fewer than `k` ties before them, then at most `k` ties stand before `p`. -/
theorem tiesBefore_le (key : Fin n → BitVec 32) (tau : BitVec 32) (k : Nat) (p : Fin n)
    (h : ∀ q, key q = tau → q < p → tiesBefore key tau q < k) : tiesBefore key tau p ≤ k := by
  have hinj : Set.InjOn (tiesBefore key tau) ((Finset.univ.filter fun q => key q = tau ∧ q < p : Finset (Fin n)) : Set (Fin n)) := by
    intro a ha b hb hab
    simp only [Finset.coe_filter, Finset.mem_univ, true_and, Set.mem_setOf_eq] at ha hb
    rcases lt_trichotomy a b with hl | hl | hl
    · have := tiesBefore_lt key tau ha.1 hl; omega
    · exact hl
    · have := tiesBefore_lt key tau hb.1 hl; omega
  calc tiesBefore key tau p = ((Finset.univ.filter fun q => key q = tau ∧ q < p).image (tiesBefore key tau)).card :=
        (Finset.card_image_of_injOn hinj).symm
    _ ≤ (Finset.range k).card := Finset.card_le_card fun x hx => by
        obtain ⟨q, hq, rfl⟩ := Finset.mem_image.mp hx
        simp only [Finset.mem_filter, Finset.mem_univ, true_and] at hq
        exact Finset.mem_range.mpr (h q hq.1 hq.2)
    _ = k := Finset.card_range k

/-- A tie is the first one with at least `k` ties before it exactly when it has exactly `k` before it. -/
theorem first_iff (key : Fin n → BitVec 32) (tau : BitVec 32) (k : Nat) (p : Fin n) (hp : key p = tau) :
    (k ≤ tiesBefore key tau p ∧ ∀ q, key q = tau → k ≤ tiesBefore key tau q → p ≤ q) ↔ tiesBefore key tau p = k := by
  constructor
  · rintro ⟨h1, h2⟩
    refine le_antisymm (tiesBefore_le key tau k p fun q hq hlt => ?_) h1
    by_contra hge
    exact absurd (h2 q hq (not_lt.mp hge)) (not_le.mpr hlt)
  · intro h
    refine ⟨h.ge, fun q hq hk => ?_⟩
    by_contra hlt
    have := tiesBefore_lt key tau hq (not_le.mp hlt)
    omega

/-! ## Halving an interval of words -/

/-- The upper middle of two words, as the program computes it. -/
def middle (lo hi : BitVec 32) : BitVec 32 := lo.sshiftRight 1 + hi.sshiftRight 1 + ((lo ||| hi) &&& 1#32)

/-- The upper middle of an interval, as an integer. -/
theorem toInt_middle (lo hi : BitVec 32) : (middle lo hi).toInt = (lo.toInt + hi.toInt + 1) / 2 := by
  have hb : ((lo ||| hi) &&& 1#32).toInt = if lo.toNat % 2 = 1 ∨ hi.toNat % 2 = 1 then 1 else 0 := by
    have h1 : ((lo ||| hi) &&& 1#32).toNat = (lo.toNat ||| hi.toNat) % 2 := by
      rw [BitVec.toNat_and, BitVec.toNat_or]
      exact Nat.and_one_is_mod _
    have h2 : (lo.toNat ||| hi.toNat) % 2 = if lo.toNat % 2 = 1 ∨ hi.toNat % 2 = 1 then 1 else 0 := by
      have h3 := Nat.testBit_or lo.toNat hi.toNat 0
      simp only [Nat.testBit_zero] at h3
      have h4 : ((lo.toNat ||| hi.toNat) % 2 = 1) ↔ (lo.toNat % 2 = 1 ∨ hi.toNat % 2 = 1) := by
        simpa using congrArg (· = true) h3
      split
      · rename_i h; exact h4.mpr h
      · rename_i h
        have : ¬ (lo.toNat ||| hi.toNat) % 2 = 1 := fun h' => h (h4.mp h')
        omega
    rw [BitVec.toInt_eq_toNat_of_lt (by rw [h1]; omega), h1, h2]
    split <;> rfl
  have hl := BitVec.le_toInt lo
  have hl' := BitVec.toInt_lt (x := lo)
  have hh := BitVec.le_toInt hi
  have hh' := BitVec.toInt_lt (x := hi)
  have el : lo.toInt % 2 = (lo.toNat : Int) % 2 := by rw [BitVec.toInt_eq_toNat_cond]; split <;> omega
  have eh : hi.toInt % 2 = (hi.toNat : Int) % 2 := by rw [BitVec.toInt_eq_toNat_cond]; split <;> omega
  have sl : (lo.sshiftRight 1).toInt = lo.toInt / 2 := by rw [BitVec.toInt_sshiftRight, Int.shiftRight_eq_div_pow]; rfl
  have sh : (hi.sshiftRight 1).toInt = hi.toInt / 2 := by rw [BitVec.toInt_sshiftRight, Int.shiftRight_eq_div_pow]; rfl
  unfold middle
  rw [BitVec.toInt_add, BitVec.toInt_add, sl, sh, hb, Int.bmod_add_bmod]
  simp only [Int.bmod_def]
  split <;> omega

/-- One round of the halving, on the count of keys from the middle up. -/
def halve (key : Fin n → BitVec 32) (K : Nat) (s : BitVec 32 × BitVec 32) : BitVec 32 × BitVec 32 :=
  if K ≤ atLeast key (middle s.1 s.2).toInt then (middle s.1 s.2, s.2) else (s.1, middle s.1 s.2 - 1#32)

/-- What every round keeps: the interval holds the threshold, and its width halves. -/
structure Bracket (key : Fin n → BitVec 32) (K k : Nat) (s : BitVec 32 × BitVec 32) : Prop where
  le : s.1.toInt ≤ s.2.toInt
  low : K ≤ atLeast key s.1.toInt
  high : atLeast key (s.2.toInt + 1) < K
  width : (s.2.toInt - s.1.toInt) * 2 ^ k < 2 ^ 32

/-- A round keeps the bracket. -/
theorem Bracket.step {key : Fin n → BitVec 32} {K k : Nat} {s : BitVec 32 × BitVec 32} (h : Bracket key K k s) :
    Bracket key K (k + 1) (halve key K s) := by
  obtain ⟨lo, hi⟩ := s
  obtain ⟨h1, h2, h3, h4⟩ := h
  simp only at h1 h2 h3 h4
  have hm := toInt_middle lo hi
  have hlo := BitVec.le_toInt lo
  have hhi := BitVec.toInt_lt (x := hi)
  unfold halve
  simp only
  split
  · rename_i hc
    refine ⟨?_, hc, h3, ?_⟩
    · simp only; omega
    · simp only
      have : (hi.toInt - (middle lo hi).toInt) * 2 ≤ hi.toInt - lo.toInt := by omega
      calc (hi.toInt - (middle lo hi).toInt) * 2 ^ (k + 1) = (hi.toInt - (middle lo hi).toInt) * 2 * 2 ^ k := by ring
        _ ≤ (hi.toInt - lo.toInt) * 2 ^ k := mul_le_mul_of_nonneg_right this (by positivity)
        _ < _ := h4
  · rename_i hc
    have hlt : lo.toInt < (middle lo hi).toInt := by
      by_contra hge
      have hle : (middle lo hi).toInt ≤ lo.toInt := not_lt.mp hge
      exact hc (h2.trans (Finset.card_le_card fun q hq => by
        simp only [Finset.mem_filter, Finset.mem_univ, true_and] at hq ⊢; omega))
    have hs : (middle lo hi - 1#32).toInt = (middle lo hi).toInt - 1 := by
      rw [BitVec.toInt_sub]
      have : (1#32 : BitVec 32).toInt = 1 := by decide
      rw [this, Int.bmod_def]
      have := BitVec.toInt_lt (x := middle lo hi)
      omega
    refine ⟨?_, h2, ?_, ?_⟩
    · simp only; omega
    · simp only; rw [hs]; simpa using hc
    · simp only
      have : ((middle lo hi - 1#32).toInt - lo.toInt) * 2 ≤ hi.toInt - lo.toInt := by omega
      calc ((middle lo hi - 1#32).toInt - lo.toInt) * 2 ^ (k + 1)
          = ((middle lo hi - 1#32).toInt - lo.toInt) * 2 * 2 ^ k := by ring
        _ ≤ (hi.toInt - lo.toInt) * 2 ^ k := mul_le_mul_of_nonneg_right this (by positivity)
        _ < _ := h4

/-- The whole range of words is a bracket, when there are at least `K` positions. -/
theorem Bracket.start (key : Fin n → BitVec 32) (K : Nat) (hK : 0 < K) (hn : K ≤ n) :
    Bracket key K 0 (2147483648#32, 2147483647#32) := by
  refine ⟨by decide, ?_, ?_, by decide⟩
  · have : (Finset.univ.filter fun q : Fin n => (2147483648#32 : BitVec 32).toInt ≤ (key q).toInt) = Finset.univ := by
      ext q
      have := BitVec.le_toInt (key q)
      have e : (2147483648#32 : BitVec 32).toInt = -2147483648 := by decide
      simp only [Finset.mem_filter, Finset.mem_univ, true_and, iff_true, e]
      omega
    show K ≤ Finset.card _
    rw [this, Finset.card_univ, Fintype.card_fin]
    exact hn
  · have : (Finset.univ.filter fun q : Fin n => (2147483647#32 : BitVec 32).toInt + 1 ≤ (key q).toInt) = ∅ := by
      ext q
      have := BitVec.toInt_lt (x := key q)
      have e : (2147483647#32 : BitVec 32).toInt = 2147483647 := by decide
      simp only [Finset.mem_filter, Finset.mem_univ, true_and, Finset.notMem_empty, iff_false, e]
      omega
    show Finset.card _ < K
    rw [this]
    exact hK

/-- After enough rounds the low end is the threshold. -/
theorem Bracket.done {key : Fin n → BitVec 32} {K k : Nat} {s : BitVec 32 × BitVec 32} (h : Bracket key K k s)
    (hk : 32 ≤ k) : K ≤ atLeast key s.1.toInt ∧ atLeast key (s.1.toInt + 1) < K := by
  have he : s.1.toInt = s.2.toInt := by
    by_contra hne
    have h1 : 1 ≤ s.2.toInt - s.1.toInt := by have := h.le; omega
    have h2 : (2 : Int) ^ 32 ≤ 2 ^ k := pow_le_pow_right₀ (by norm_num) hk
    have h3 : (2 : Int) ^ k ≤ (s.2.toInt - s.1.toInt) * 2 ^ k := by
      have : (0 : Int) < 2 ^ k := by positivity
      nlinarith
    exact absurd h.width (not_lt.mpr (h2.trans h3))
  exact ⟨h.low, he ▸ h.high⟩

end Cert.Hand.Select
-- ==== Proof.KernelSelect.lean ====
/- The kernel's selection, row by row: the two ends of the halving, the loop over the ties, and the mask. -/
module

public import proofs.«01_k».proof.Proof.KernelBody
public import proofs.«01_k».proof.Proof.Select
public import Idealize.ShloMosaic.Lib.Pointwise
public import Idealize.ShloMosaic.Lib.IndicatorCount
public import Idealize.ShloMosaic.Lib.WordCmp

@[expose] public section

set_option maxRecDepth 16384

noncomputable section

namespace Cert.Kernel.Hand

open Idealize.ShloMosaic
open Cert.Kernel.Gen Cert.Hand.Select

/-- The tile of a position in its row. -/
def tileOf (p : Fin 4096) : Fin 4 := Fin.divNat (m := 4) (n := 1024) p

/-- The place of a position in its tile. -/
def laneOf (p : Fin 4096) : Fin 1024 := Fin.modNat (m := 4) (n := 1024) p

/-- A sum over tiles and lanes is a sum over positions. -/
theorem sum_tiles (f : Fin 4 → Fin 1024 → ℕ) : ∑ x, ∑ y, f x y = ∑ p : Fin 4096, f (tileOf p) (laneOf p) := by
  rw [← Fintype.sum_prod_type']
  exact (Equiv.sum_comp (finProdFinEquiv (m := 4) (n := 1024)).symm fun q => f q.1 q.2).symm

/-- Every tile and lane is a position's. -/
theorem exists_position (x : Fin 4) (y : Fin 1024) : ∃ p : Fin 4096, tileOf p = x ∧ laneOf p = y := by
  refine ⟨finProdFinEquiv (m := 4) (n := 1024) (x, y), ?_, ?_⟩
  · exact congrArg Prod.fst ((finProdFinEquiv (m := 4) (n := 1024)).symm_apply_apply (x, y))
  · exact congrArg Prod.snd ((finProdFinEquiv (m := 4) (n := 1024)).symm_apply_apply (x, y))

/-- A fold of additions of small counts is their sum, as a word. -/
theorem fold_addi_ofNat {ι : Type} (c : ι → ℕ) (S : Finset ι) :
    S.fold IntOp.addi (0#32) (fun k => BitVec.ofNat 32 (c k)) = BitVec.ofNat 32 (∑ k ∈ S, c k) := by
  classical
  induction S using Finset.induction_on with
  | empty => rfl
  | insert a S ha ih =>
    rw [Finset.fold_insert ha, ih, Finset.sum_insert ha, BitVec.ofNat_add]
    rfl

/-- Counting marks lane by lane, then tile by tile, counts the marked positions. -/
theorem count_tiles (q : Fin 4 → Fin 1024 → BitVec 1) :
    Finset.fold IntOp.addi (0#32) (fun x => Finset.fold IntOp.addi (0#32) (fun y => (q x y).setWidth 32) Finset.univ) Finset.univ
      = BitVec.ofNat 32 (Finset.univ.filter fun p : Fin 4096 => q (tileOf p) (laneOf p) = 1#1).card := by
  have h : ∀ x, Finset.fold IntOp.addi (0#32) (fun y => (q x y).setWidth 32) Finset.univ
      = BitVec.ofNat 32 (∑ y, if q x y = 1#1 then 1 else 0) := fun x => by
    rw [IndicatorCount.fold_addi_setWidth_eq_card, Finset.card_filter]
  rw [show (fun x => Finset.fold IntOp.addi (0#32) (fun y => (q x y).setWidth 32) Finset.univ)
      = fun x => BitVec.ofNat 32 (∑ y, if q x y = 1#1 then 1 else 0) from funext h, fold_addi_ofNat,
    sum_tiles fun x y => if q x y = 1#1 then 1 else 0, Finset.card_filter]

/-- A bound from below of a fold of signed minima. -/
theorem le_fold_minsi {ι : Type} (b : BitVec 32) (f : ι → BitVec 32) (S : Finset ι) (c : Int) :
    c ≤ (S.fold IntOp.minsi b f).toInt ↔ c ≤ b.toInt ∧ ∀ x ∈ S, c ≤ (f x).toInt := by
  classical
  induction S using Finset.induction_on with
  | empty => simp
  | insert a S ha ih =>
    rw [Finset.fold_insert ha]
    have hm : ∀ u v : BitVec 32, c ≤ (IntOp.minsi u v).toInt ↔ c ≤ u.toInt ∧ c ≤ v.toInt := fun u v => by
      unfold IntOp.minsi
      simp only [BitVec.slt_eq_decide, BitVec.sle_eq_decide]
      split <;> rename_i h <;> simp only [decide_eq_true_eq] at h <;> omega
    rw [hm, ih]
    simp only [Finset.mem_insert, forall_eq_or_imp]
    tauto

/-- The least marked position, by minima over lanes and then tiles of the position where marked and 4096 elsewhere. -/
theorem least_marked (P : Fin 4 → Fin 1024 → BitVec 1) (pos : Fin 4 → Fin 1024 → BitVec 32)
    (hpos : ∀ p : Fin 4096, pos (tileOf p) (laneOf p) = BitVec.ofNat 32 p.val) (p : Fin 4096) :
    pos (tileOf p) (laneOf p) = Finset.fold IntOp.minsi (2147483647#32) (fun x => Finset.fold IntOp.minsi (2147483647#32)
        (fun y => Scalar.select (P x y) (pos x y) 4096#32) Finset.univ) Finset.univ
      ↔ P (tileOf p) (laneOf p) = 1#1 ∧ ∀ q : Fin 4096, P (tileOf q) (laneOf q) = 1#1 → p ≤ q := by
  have hint : ∀ n : ℕ, n ≤ 4096 → (BitVec.ofNat 32 n).toInt = n := fun n hn => by
    rw [BitVec.toInt_eq_toNat_of_lt (by rw [BitVec.toNat_ofNat]; omega), BitVec.toNat_ofNat]
    omega
  set idx := Finset.fold IntOp.minsi (2147483647#32) (fun x => Finset.fold IntOp.minsi (2147483647#32)
        (fun y => Scalar.select (P x y) (pos x y) 4096#32) Finset.univ) Finset.univ with hidx
  have key : ∀ c : Int, c ≤ 4096 → (c ≤ idx.toInt ↔ ∀ q : Fin 4096, P (tileOf q) (laneOf q) = 1#1 → c ≤ q.val) := by
    intro c hc
    have h0 : c ≤ (2147483647#32 : BitVec 32).toInt := by
      have : (2147483647#32 : BitVec 32).toInt = 2147483647 := by decide
      omega
    rw [hidx, le_fold_minsi]
    simp only [le_fold_minsi, h0, true_and, Finset.mem_univ, forall_true_left]
    constructor
    · intro h q hq
      have := h (tileOf q) (laneOf q)
      rw [show Scalar.select (P (tileOf q) (laneOf q)) (pos (tileOf q) (laneOf q)) 4096#32 = pos (tileOf q) (laneOf q) from
        if_pos hq, hpos, hint _ q.isLt.le] at this
      exact this
    · intro h x y
      obtain ⟨q, rfl, rfl⟩ := exists_position x y
      by_cases hq : P (tileOf q) (laneOf q) = 1#1
      · rw [show Scalar.select (P (tileOf q) (laneOf q)) (pos (tileOf q) (laneOf q)) 4096#32 = pos (tileOf q) (laneOf q) from
          if_pos hq, hpos, hint _ q.isLt.le]
        exact h q hq
      · rw [show Scalar.select (P (tileOf q) (laneOf q)) (pos (tileOf q) (laneOf q)) 4096#32 = 4096#32 from
          if_neg hq]
        exact hc
  have hp := p.isLt
  have k1 := key p.val (by omega)
  have k2 := key (p.val + 1) (by omega)
  have hh : pos (tileOf p) (laneOf p) = idx ↔ (p.val : Int) = idx.toInt := by
    rw [hpos]
    constructor
    · intro h; rw [← h, hint _ hp.le]
    · intro h; exact BitVec.eq_of_toInt_eq (by rw [hint _ hp.le]; exact h)
  rw [hh]
  constructor
  · intro h
    have a1 := k1.mp h.le
    refine ⟨?_, fun q hq => by have := a1 q hq; exact Fin.le_def.mpr (by omega)⟩
    by_contra hP
    have : (p.val : Int) + 1 ≤ idx.toInt := k2.mpr fun q hq => by
      have := a1 q hq
      have hne : q ≠ p := fun e => hP (e ▸ hq)
      have : q.val ≠ p.val := fun e => hne (Fin.ext e)
      omega
    omega
  · rintro ⟨hP, hle⟩
    have a1 := k1.mpr fun q hq => by have := Fin.le_def.mp (hle q hq); omega
    have a2 : ¬ ((p.val : Int) + 1 ≤ idx.toInt) := fun h => by have := k2.mp h p hP; omega
    omega

/-- A left fold whose step takes an invariant from each count of steps to the next one. -/
theorem foldl_count {α β : Type} (g : β → α → β) (P : ℕ → β → Prop) (hs : ∀ k b a, P k b → P (k + 1) (g b a)) (l : List α)
    (k : ℕ) (b : β) (h : P k b) : P (k + l.length) (l.foldl g b) := by
  induction l generalizing k b with
  | nil => exact h
  | cons a l ih =>
    have := ih (k + 1) (g b a) (hs k b a h)
    rw [List.length_cons, show k + (l.length + 1) = k + 1 + l.length from by omega]
    exact this

variable {F : FTy → Type} [BitOps F]

/-- The sort keys of row `b`, by position. -/
def rowKey (v15 : Vec F S16x1024 .f32) (v17 : Vec F S4x4x1024 .i32) (b : Fin 4) (p : Fin 4096) : BitVec 32 :=
  k0_pay3 v15 v17 (ix3 b (tileOf p) (laneOf p))

/-- The position array holds the positions. -/
theorem pos_at (b : Fin 4) (p : Fin 4096) : k0_pay4 (ix3 b (tileOf p) (laneOf p)) = BitVec.ofNat 32 p.val := by
  unfold k0_pay4
  pointwise
  apply BitVec.eq_of_toNat_eq
  have h1 : (tileOf p).val = p.val / 1024 := rfl
  have h2 : (laneOf p).val = p.val % 1024 := rfl
  have := p.isLt
  show (BitVec.ofNat 32 (tileOf p).val * 1024#32 + BitVec.ofNat 32 (laneOf p).val).toNat = _
  rw [h1, h2]
  simp only [BitVec.toNat_add, BitVec.toNat_mul, BitVec.toNat_ofNat]
  omega

/-- A one-bit word of a condition is one exactly when the condition holds. -/
theorem ofBool_decide_iff (p : Prop) [Decidable p] : BitVec.ofBool (decide p) = 1#1 ↔ p := by
  by_cases h : p <;> simp [h]

/-- The signed comparison "at least", on words. -/
theorem sge_iff (x y : BitVec 32) : IntOp.cmpi .sge x y = 1#1 ↔ y.toInt ≤ x.toInt := by
  rw [WordCmp.cmpi_sge_eq, ofBool_decide_iff]

/-- Equality, on words. -/
theorem eq_iff (x y : BitVec 32) : IntOp.cmpi .eq x y = 1#1 ↔ x = y := by
  rw [WordCmp.cmpi_eq_eq, ofBool_decide_iff]

/-- The conjunction of two one-bit words. -/
theorem and_iff (x y : BitVec 1) : IntOp.andi x y = 1#1 ↔ x = 1#1 ∧ y = 1#1 := by
  show x &&& y = 1#1 ↔ _
  revert x y
  decide

/-- A choice by a one-bit word. -/
theorem select_eq {α : Type} (c : BitVec 1) (x y : α) : Scalar.select c x y = if c = 1#1 then x else y := rfl

/-- The number of positions of a set. -/
theorem card_le (P : Fin 4096 → Prop) [DecidablePred P] : (Finset.univ.filter P).card ≤ 4096 := by
  have := Finset.card_filter_le (Finset.univ : Finset (Fin 4096)) P
  rwa [Finset.card_univ, Fintype.card_fin] at this

/-- The words of the middle. -/
theorem middle_row (lo hi : IVec S4x1x1 32) (b : Fin 4) :
    k0_pay7 lo hi (ix3 b 0 0) = middle (lo (ix3 b 0 0)) (hi (ix3 b 0 0)) := by
  unfold k0_pay7
  pointwise
  rfl

/-- The test of a round: at least 64 keys from the middle up. -/
theorem enough_row (v15 : Vec F S16x1024 .f32) (v17 : Vec F S4x4x1024 .i32) (lo hi : IVec S4x1x1 32) (b : Fin 4) :
    k0_pay8 v15 v17 lo hi (ix3 b 0 0) = 1#1
      ↔ 64 ≤ atLeast (rowKey v15 v17 b) (middle (lo (ix3 b 0 0)) (hi (ix3 b 0 0))).toInt := by
  unfold k0_pay8
  pointwise
  rw [count_tiles, middle_row, WordCmp.cmpi_sge_ofNat_eq_one_iff (lt_of_le_of_lt (card_le _) (by norm_num)) (by norm_num)]
  exact Iff.of_eq (congrArg (64 ≤ ·) (congrArg Finset.card (Finset.filter_congr fun p _ => sge_iff _ _)))

/-- One round of the kernel's halving, at row `b`. -/
theorem halve_row (v15 : Vec F S16x1024 .f32) (v17 : Vec F S4x4x1024 .i32) (lo hi : IVec S4x1x1 32) (b : Fin 4) :
    (k0_pay9 v15 v17 lo hi (ix3 b 0 0), k0_pay10 v15 v17 lo hi (ix3 b 0 0))
      = halve (rowKey v15 v17 b) 64 (lo (ix3 b 0 0), hi (ix3 b 0 0)) := by
  have hc := enough_row v15 v17 lo hi b
  unfold k0_pay9 k0_pay10 halve
  pointwise
  rw [middle_row]
  simp only [select_eq]
  simp only [hc]
  split <;> rfl

/-- After the kernel's rounds the low end brackets the 64th key of row `b`. -/
theorem ends_row (v15 : Vec F S16x1024 .f32) (v17 : Vec F S4x4x1024 .i32) (b : Fin 4) :
    64 ≤ atLeast (rowKey v15 v17 b) ((ends v15 v17).1 (ix3 b 0 0)).toInt
      ∧ atLeast (rowKey v15 v17 b) (((ends v15 v17).1 (ix3 b 0 0)).toInt + 1) < 64 := by
  have h := foldl_count
    (fun (acc : IVec S4x1x1 32 × IVec S4x1x1 32) (_ : Fin k0_t1_loop.trips) =>
      (k0_pay9 v15 v17 acc.1 acc.2, k0_pay10 v15 v17 acc.1 acc.2))
    (fun k s => Bracket (rowKey v15 v17 b) 64 k (s.1 (ix3 b 0 0), s.2 (ix3 b 0 0)))
    (fun k s _ hs => by
      have := hs.step
      rw [← halve_row] at this
      exact this)
    (List.finRange k0_t1_loop.trips) 0 (k0_pay5, k0_pay6)
    (Bracket.start _ 64 (by norm_num) (by norm_num))
  rw [List.length_finRange, zero_add] at h
  have := h.done (show 32 ≤ k0_t1_loop.trips by decide +kernel)
  unfold ends
  rw [Scf.fold_eq]
  exact this

/-! ## The ties -/

/-- What the loop over the ties has marked at row `b` after `k` rounds. -/
def marked (key : Fin 4096 → BitVec 32) (tau : BitVec 32) (k : ℕ) (p : Fin 4096) : BitVec 32 :=
  if tau.toInt < (key p).toInt ∨ (key p = tau ∧ tiesBefore key tau p < k) then 1#32 else 0#32

/-- A key above the threshold. -/
theorem above_row (v15 : Vec F S16x1024 .f32) (v17 : Vec F S4x4x1024 .i32) (tau : IVec S4x1x1 32) (b : Fin 4) (p : Fin 4096) :
    k0_pay11 v15 v17 tau (ix3 b (tileOf p) (laneOf p)) = 1#1
      ↔ (tau (ix3 b 0 0)).toInt < (rowKey v15 v17 b p).toInt := by
  unfold k0_pay11
  pointwise
  rw [WordCmp.cmpi_sgt_eq, ofBool_decide_iff]
  rfl

/-- The test of a round over the ties: fewer marked than are missing above the threshold. -/
theorem active_row (v15 : Vec F S16x1024 .f32) (v17 : Vec F S4x4x1024 .i32) (tau tk : IVec S4x1x1 32) (b : Fin 4) (k : ℕ)
    (hk : k ≤ 64) (htk : tk (ix3 b 0 0) = BitVec.ofNat 32 k)
    (hr : atLeast (rowKey v15 v17 b) ((tau (ix3 b 0 0)).toInt + 1) < 64) :
    k0_pay14 v15 v17 tau tk (ix3 b 0 0) = 1#1
      ↔ k < 64 - atLeast (rowKey v15 v17 b) ((tau (ix3 b 0 0)).toInt + 1) := by
  unfold k0_pay14
  pointwise
  rw [count_tiles, htk]
  simp only [above_row]
  have e : (Finset.univ.filter fun p : Fin 4096 => (tau (ix3 b 0 0)).toInt < (rowKey v15 v17 b p).toInt).card
      = atLeast (rowKey v15 v17 b) ((tau (ix3 b 0 0)).toInt + 1) := rfl
  rw [e]
  generalize atLeast (rowKey v15 v17 b) ((tau (ix3 b 0 0)).toInt + 1) = c at *
  have hs : IntOp.subi (64#32) (BitVec.ofNat 32 c) = BitVec.ofNat 32 (64 - c) := by
    show (64#32) - BitVec.ofNat 32 c = _
    apply BitVec.eq_of_toNat_eq
    rw [BitVec.toNat_sub]
    simp only [BitVec.toNat_ofNat]
    omega
  rw [hs, WordCmp.cmpi_slt_ofNat_eq_one_iff (lt_of_le_of_lt hk (by norm_num)) (by omega)]

/-- One round over the ties, at row `b`. -/
theorem tie_row (v15 : Vec F S16x1024 .f32) (v17 : Vec F S4x4x1024 .i32) (tau : IVec S4x1x1 32) (mk : IVec S4x4x1024 32)
    (tk : IVec S4x1x1 32) (b : Fin 4) (k : ℕ) (hk : k ≤ 64) (htk : tk (ix3 b 0 0) = BitVec.ofNat 32 k)
    (hr : atLeast (rowKey v15 v17 b) ((tau (ix3 b 0 0)).toInt + 1) < 64)
    (hmk : ∀ p, mk (ix3 b (tileOf p) (laneOf p)) = marked (rowKey v15 v17 b) (tau (ix3 b 0 0)) k p) (p : Fin 4096) :
    k0_pay15 v15 v17 tau mk tk (ix3 b (tileOf p) (laneOf p))
      = marked (rowKey v15 v17 b) (tau (ix3 b 0 0))
          (if k < 64 - atLeast (rowKey v15 v17 b) ((tau (ix3 b 0 0)).toInt + 1) then k + 1 else k) p := by
  have ha := active_row v15 v17 tau tk b k hk htk hr
  have hl := least_marked (fun x y => IntOp.andi (IntOp.cmpi .eq (k0_pay3 v15 v17 (ix3 b x y)) (tau (ix3 b 0 0)))
      (IntOp.cmpi .eq (mk (ix3 b x y)) 0#32)) (fun x y => k0_pay4 (ix3 b x y)) (pos_at b) p
  unfold k0_pay15
  pointwise
  simp only [select_eq] at hl ⊢
  simp only [and_iff, eq_iff, ha] at hl ⊢
  have hz : ∀ q, k0_pay3 v15 v17 (ix3 b (tileOf q) (laneOf q)) = tau (ix3 b 0 0) ∧ mk (ix3 b (tileOf q) (laneOf q)) = 0#32
      ↔ rowKey v15 v17 b q = tau (ix3 b 0 0) ∧ k ≤ tiesBefore (rowKey v15 v17 b) (tau (ix3 b 0 0)) q := fun q => by
    rw [hmk]
    show rowKey v15 v17 b q = _ ∧ _ ↔ _
    refine and_congr_right fun hq => ?_
    unfold marked
    rw [hq]
    simp only [lt_irrefl, false_or, true_and]
    by_cases h : tiesBefore (rowKey v15 v17 b) (tau (ix3 b 0 0)) q < k
    · rw [if_pos h]; exact iff_of_false (by decide) (by omega)
    · rw [if_neg h]; exact iff_of_true rfl (by omega)
  have hc : ((k0_pay3 v15 v17 (ix3 b (tileOf p) (laneOf p)) = tau (ix3 b 0 0) ∧ mk (ix3 b (tileOf p) (laneOf p)) = 0#32)
      ∧ ∀ q : Fin 4096, k0_pay3 v15 v17 (ix3 b (tileOf q) (laneOf q)) = tau (ix3 b 0 0) ∧ mk (ix3 b (tileOf q) (laneOf q)) = 0#32 → p ≤ q)
      ↔ rowKey v15 v17 b p = tau (ix3 b 0 0) ∧ tiesBefore (rowKey v15 v17 b) (tau (ix3 b 0 0)) p = k := by
    simp only [hz, and_imp]
    rw [and_assoc]
    refine and_congr_right fun hp => ?_
    exact first_iff (rowKey v15 v17 b) (tau (ix3 b 0 0)) k p hp
  simp only [hl.trans hc]
  rw [hmk]
  unfold marked
  by_cases hact : k < 64 - atLeast (rowKey v15 v17 b) ((tau (ix3 b 0 0)).toInt + 1)
  · simp only [hact, and_true, if_true]
    by_cases he : rowKey v15 v17 b p = tau (ix3 b 0 0)
    · simp only [he, true_and, lt_irrefl, false_or]
      split_ifs <;> first | rfl | omega
    · simp only [he, false_and, or_false, if_false]
  · simp only [hact, and_false, if_false]

/-- The count of the ties taken, at row `b`. -/
theorem taken_row (v15 : Vec F S16x1024 .f32) (v17 : Vec F S4x4x1024 .i32) (tau tk : IVec S4x1x1 32) (b : Fin 4) (k : ℕ)
    (hk : k ≤ 64) (htk : tk (ix3 b 0 0) = BitVec.ofNat 32 k)
    (hr : atLeast (rowKey v15 v17 b) ((tau (ix3 b 0 0)).toInt + 1) < 64) :
    k0_pay16 v15 v17 tau tk (ix3 b 0 0)
      = BitVec.ofNat 32 (if k < 64 - atLeast (rowKey v15 v17 b) ((tau (ix3 b 0 0)).toInt + 1) then k + 1 else k) := by
  have ha := active_row v15 v17 tau tk b k hk htk hr
  unfold k0_pay16
  pointwise
  rw [htk]
  by_cases hact : k < 64 - atLeast (rowKey v15 v17 b) ((tau (ix3 b 0 0)).toInt + 1)
  · rw [if_pos hact, ha.mpr hact]
    exact (BitVec.ofNat_add k 1).symm
  · rw [if_neg hact]
    have : k0_pay14 v15 v17 tau tk (ix3 b 0 0) = 0#1 := by
      have h : ∀ w : BitVec 1, w ≠ 1#1 → w = 0#1 := by decide
      exact h _ fun h => hact (ha.mp h)
    rw [this]
    exact (BitVec.add_zero _)

/-- The loop over the ties, at row `b`: the mask marks the keys above the threshold and the first ties, as many as are
    missing. -/
theorem ties_row (v15 : Vec F S16x1024 .f32) (v17 : Vec F S4x4x1024 .i32) (tau : IVec S4x1x1 32) (b : Fin 4)
    (hr : atLeast (rowKey v15 v17 b) ((tau (ix3 b 0 0)).toInt + 1) < 64) (p : Fin 4096) :
    (ties v15 v17 tau).1 (ix3 b (tileOf p) (laneOf p))
      = marked (rowKey v15 v17 b) (tau (ix3 b 0 0)) (64 - atLeast (rowKey v15 v17 b) ((tau (ix3 b 0 0)).toInt + 1)) p := by
  have h := foldl_count
    (fun (acc : IVec S4x4x1024 32 × IVec S4x1x1 32) (_ : Fin k0_t2_loop.trips) =>
      (k0_pay15 v15 v17 tau acc.1 acc.2, k0_pay16 v15 v17 tau acc.2))
    (fun k s => s.2 (ix3 b 0 0) = BitVec.ofNat 32 (min k (64 - atLeast (rowKey v15 v17 b) ((tau (ix3 b 0 0)).toInt + 1)))
      ∧ ∀ p, s.1 (ix3 b (tileOf p) (laneOf p)) = marked (rowKey v15 v17 b) (tau (ix3 b 0 0))
          (min k (64 - atLeast (rowKey v15 v17 b) ((tau (ix3 b 0 0)).toInt + 1))) p)
    (fun k s _ hs => by
      have e : min (k + 1) (64 - atLeast (rowKey v15 v17 b) ((tau (ix3 b 0 0)).toInt + 1))
          = if min k (64 - atLeast (rowKey v15 v17 b) ((tau (ix3 b 0 0)).toInt + 1))
              < 64 - atLeast (rowKey v15 v17 b) ((tau (ix3 b 0 0)).toInt + 1)
            then min k (64 - atLeast (rowKey v15 v17 b) ((tau (ix3 b 0 0)).toInt + 1)) + 1
            else min k (64 - atLeast (rowKey v15 v17 b) ((tau (ix3 b 0 0)).toInt + 1)) := by
        split_ifs <;> omega
      rw [e]
      exact ⟨taken_row v15 v17 tau s.2 b _ (by omega) hs.1 hr, tie_row v15 v17 tau s.1 s.2 b _ (by omega) hs.1 hr hs.2⟩)
    (List.finRange k0_t2_loop.trips) 0 (k0_pay12 v15 v17 tau, k0_pay13)
    ⟨by rw [Nat.zero_min]; rfl, fun p => by
      rw [Nat.zero_min]
      show (k0_pay12 v15 v17 tau) (ix3 b (tileOf p) (laneOf p)) = _
      have hab := above_row v15 v17 tau b p
      unfold k0_pay12 marked
      pointwise
      simp only [Nat.not_lt_zero, and_false, or_false]
      by_cases h : (tau (ix3 b 0 0)).toInt < (rowKey v15 v17 b p).toInt
      · rw [if_pos h, hab.mpr h]; rfl
      · rw [if_neg h]
        have : k0_pay11 v15 v17 tau (ix3 b (tileOf p) (laneOf p)) = 0#1 := by
          have h' : ∀ w : BitVec 1, w ≠ 1#1 → w = 0#1 := by decide
          exact h' _ fun h' => h (hab.mp h')
        rw [this]; rfl⟩
  rw [List.length_finRange, zero_add] at h
  have ht : k0_t2_loop.trips = 64 := by decide +kernel
  have := h.2 p
  rw [show min k0_t2_loop.trips (64 - atLeast (rowKey v15 v17 b) ((tau (ix3 b 0 0)).toInt + 1))
    = 64 - atLeast (rowKey v15 v17 b) ((tau (ix3 b 0 0)).toInt + 1) by omega] at this
  unfold ties
  rw [Scf.fold_eq]
  exact this

/-- The kernel's mask at row `b`: the first position, and the positions with fewer than 64 ahead of them. -/
theorem maskOf_row (v15 : Vec F S16x1024 .f32) (v17 : Vec F S4x4x1024 .i32) (b : Fin 4) (p : Fin 4096) :
    maskOf v15 v17 (ix3 b (tileOf p) (laneOf p)) = if p.val = 0 ∨ rank (rowKey v15 v17 b) p < 64 then 1#32 else 0#32 := by
  have he := ends_row v15 v17 b
  unfold maskOf k0_pay2
  pointwise
  rw [pos_at, ties_row v15 v17 _ b he.2]
  simp only [select_eq]
  have hp := p.isLt
  have h0 : BitVec.ofNat 32 p.val = 0#32 ↔ p.val = 0 := by
    constructor
    · intro h
      have := congrArg BitVec.toNat h
      simp only [BitVec.toNat_ofNat] at this
      omega
    · intro h; rw [h]
  simp only [eq_iff, h0]
  simp only [rank_lt_iff (rowKey v15 v17 b) 64 _ he.1 he.2 p]
  unfold marked
  by_cases h : p.val = 0
  · simp only [h, true_or, if_true]
  · simp only [h, false_or, if_false]

end Cert.Kernel.Hand
-- ==== Proof.ScoredSelect.lean ====
/- The middle program's selection, row by row: the places of the top 64, and the two scatters of ones. -/
module

public import proofs.«01_k».proof.Proof.Gen.Scored.Frame
public import proofs.«01_k».proof.Proof.Select
public import Idealize.ShloMosaic.Lib.Pointwise
public import Idealize.ShloMosaic.Lib.SortKey
public import Idealize.ShloMosaic.Lib.Routing.OpsPair
public import Idealize.ShloMosaic.Lib.Routing.OpsSet
public import Idealize.ShloMosaic.Lib.Routing.OpsOne

@[expose] public section

set_option maxRecDepth 16384

noncomputable section

namespace Cert.Scored.Hand

open Cert.Scored Cert.Scored.Gen Idealize.ShloMosaic
open Cert.Hand.Select

variable {F : FTy → Type} [FloatOps F]

/-- The places of the 64 largest entries of each row. -/
def places (x : FVec F S4x4096 .f32) : IVec S4x64 32 :=
  (Host.topK S4x64 1 (FloatOps.cmpfTotal .gt) x sliceFits_S4x4096_S4x64).2

/-- Two columns of indices, side by side. -/
def pair (a b : IVec S4x64x1 32) : IVec S4x64x2 32 :=
  concatenate S4x64x2 2 [⟨S4x64x1, a⟩, ⟨S4x64x1, b⟩] concatenates_S4x64x1_S4x64x1_S4x64x2_d2

/-- The pairs of a row and a place at which the ones are written. -/
def targets (x : FVec F S4x4096 .f32) : IVec S4x64x2 32 :=
  pair (broadcastInDim S4x64x1 ![0, 1] bcast_S4x64_S4x64x1_0_1 (broadcastInDim S4x64 ![0, 1] bcast_S4x1_S4x64_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))
    (broadcastInDim S4x64x1 ![0, 1] bcast_S4x64_S4x64x1_0_1 (select (cmpi .slt (places x) (broadcastInDim S4x64 ![] bcast_S_S4x64 (constantI S_ 32 0#32))) (addi (places x) (broadcastInDim S4x64 ![] bcast_S_S4x64 (constantI S_ 32 4096#32))) (places x)))

/-- The mask of the selection from the masked scores `x`. -/
def picked (x : FVec F S4x4096 .f32) : IVec S4x4096 32 :=
  Host.scatter scatter_S4x4096_S1_S4_0_1_1_0 (fun _ b => b)
    (Host.scatter scatter_S4x4096_S4x64x2_S4x64_n_01_01_2 (fun _ b => b) (broadcastInDim S4x4096 ![] bcast_S_S4x4096 (constantI S_ 32 0#32)) (targets x)
      (broadcastInDim S4x64 ![] bcast_S_S4x64 (constantI S_ 32 1#32)))
    (broadcastInDim S1 ![] bcast_S_S1 (constantI S_ 32 0#32)) (broadcastInDim S4 ![] bcast_S_S4 (constantI S_ 32 1#32))

/-- The scores with the masked-out ones replaced by minus infinity. -/
def masked (am : IVec S4x4096 32) (sc : FVec F S4x4096 .f32) : FVec F S4x4096 .f32 :=
  select (id (cmpi .ne am (broadcastInDim S4x4096 ![] bcast_S_S4x4096 (constantI S_ 32 0#32)))) sc
    (broadcastInDim S4x4096 ![] bcast_S_S4x4096 (id (constant S_ .f32 0xFF800000#32)))

/-- The first 64 entries of each row of a table. -/
theorem head_at (y : IVec S4x4096 32) (b : Fin 4) (i : Fin 64) :
    extractStridedSlice S4x64 (fun _ => 0) y sliceFits_S4x4096_S4x64 (ix2 b i) = y (ix2 b (i.castLE (by norm_num : 64 ≤ 4096))) := by
  pointwise
  refine congrArg y (funext fun a => ?_)
  match a with
  | ⟨0, _⟩ => rfl
  | ⟨1, _⟩ => rfl

/-- A sort of pairs along an axis, its second table read at a position: the entry that the sort brings there. -/
theorem sort_snd (s : Shape) (d : Nat) {α β : Type} (cmp : α × β → α × β → BitVec 1) (x : s.Idx → α) (y : s.Idx → β) (hd : d < s.rank) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The `i`-th place of row `b`, when the comparison of the row's entries is the comparison of their keys. -/
theorem places_at (x : FVec F S4x4096 .f32) (b : Fin 4) (key : Fin 4096 → BitVec 32)
    (hk : ∀ k k', (FloatOps.cmpfTotal .gt (x (ix2 b k)) (x (ix2 b k')) == 1#1) = byKey key k k') (i : Fin 64) :
    places x (ix2 b i) = BitVec.ofNat 32 (sortedFrom (byKey key) (i.castLE (by norm_num : 64 ≤ 4096))).val := by
  have hd : 1 < S4x4096.rank := by decide
  have ha : ∀ k i : Fin 4096, Shape.Idx.along (s := S4x4096) (ix2 b i) ⟨1, hd⟩ k = ix2 b k := fun k i => by
    funext a
    match a with
    | ⟨0, _⟩ => rfl
    | ⟨1, _⟩ => rfl
  refine (head_at (Host.sort2 S4x4096 1 (fun (l r : F .f32 × BitVec 32) => FloatOps.cmpfTotal .gt l.1 r.1) x (fun i => if hd : 1 < S4x4096.rank then iotaInDim S4x4096 32 ⟨1, hd⟩ i else 0#32)).2 b i :
    places x (ix2 b i) = _).trans ?_
  generalize i.castLE (by norm_num : 64 ≤ 4096) = q
  refine (sort_snd _ _ _ _ _ hd _).trans ?_
  rw [dif_pos hd]
  have he : ∀ (r : Fin 4096 → Fin 4096 → Bool) (hr : r = byKey key), iotaInDim S4x4096 32 ⟨1, hd⟩ (Shape.Idx.along (s := S4x4096) (ix2 b q) ⟨1, hd⟩ (sortedFrom r q))
      = BitVec.ofNat 32 (sortedFrom (byKey key) q).val := fun r hr => by
    have hz : ∀ z : Fin 4096, iotaInDim S4x4096 32 ⟨1, hd⟩ (Shape.Idx.along (s := S4x4096) (ix2 b q) ⟨1, hd⟩ z) = BitVec.ofNat 32 z.val := fun z => by
      rw [ha]
      rfl
    rw [hr]
    exact hz _
  refine he _ ?_
  funext k k'
  refine Eq.trans ?_ (hk k k')
  refine congrArg (fun z => z == 1#1) ?_
  exact congrArg₂ (fun u v => FloatOps.cmpfTotal (F := F) .gt (x u) (x v)) (ha k q) (ha k' q)

/-- The row of every target. -/
theorem targets_row (x : FVec F S4x4096 .f32) (b : Fin 4) (i : Fin 64) : targets x (ix3 b i 0) = BitVec.ofNat 32 b.val := by
  unfold targets pair
  pointwise
  exact Routing.wrap_of_lt _ _ (by rw [BitVec.toNat_ofNat]; omega)

/-- The place of every target. -/
theorem targets_place (x : FVec F S4x4096 .f32) (b : Fin 4) (i : Fin 64) (hi : (places x (ix2 b i)).toNat < 2 ^ 31) :
    targets x (ix3 b i 1) = places x (ix2 b i) := by
  unfold targets pair
  pointwise
  exact Routing.wrap_of_lt _ _ hi

/-- The mask read at a position: one at the first position and at the 64 positions of its row that come first by key. -/
theorem picked_at (x : FVec F S4x4096 .f32) (b : Fin 4) (key : Fin 4096 → BitVec 32)
    (hk : ∀ k k', (FloatOps.cmpfTotal .gt (x (ix2 b k)) (x (ix2 b k')) == 1#1) = byKey key k k') (p : Fin 4096) :
    picked x (ix2 b p) = if p.val = 0 ∨ rank key p < 64 then 1#32 else 0#32 := by
  have hpl := places_at x b key hk
  have hlt : ∀ i : Fin 64, (sortedFrom (byKey key) (i.castLE (by norm_num : 64 ≤ 4096))).val < 2 ^ 31 := fun i =>
    lt_trans (Fin.isLt _) (by norm_num)
  have hrow : ∀ (b' : Fin 4) (i : Fin 64), (targets x (ix3 b' i 0)).toInt = b'.val := fun b' i => by
    rw [targets_row, StableHlo.Predicate.toInt_ofNat_small _ (lt_trans b'.isLt (by norm_num))]
  have hplace : ∀ i : Fin 64, (targets x (ix3 b i 1)).toInt = (sortedFrom (byKey key) (i.castLE (by norm_num : 64 ≤ 4096))).val := fun i => by
    rw [targets_place x b i (by rw [hpl, BitVec.toNat_ofNat]; exact lt_of_le_of_lt (Nat.mod_le _ _) (hlt i)), hpl,
      StableHlo.Predicate.toInt_ofNat_small _ (hlt i)]
  have hlands2 : ∀ (a : Fin 4) (i : Fin 64), scatter_S4x4096_S4x64x2_S4x64_n_01_01_2.resultIdx? (ix2 a i) (targets x) = some (ix2 b p)
      ↔ a = b ∧ sortedFrom (byKey key) (i.castLE (by norm_num : 64 ≤ 4096)) = p := fun a i => by
    rw [ix2_eq_valueIdx, ix2_eq_valueIdx]
    refine (Routing.scatter_lands2 scatter_S4x4096_S4x64x2_S4x64_n_01_01_2 rfl rfl rfl (targets x) a i b p).trans ?_
    rw [← ix3_eq_valueIdx, ← ix3_eq_valueIdx, hrow]
    constructor
    · rintro ⟨h0, h1⟩
      have hb : a = b := Fin.ext (by exact_mod_cast h0)
      refine ⟨hb, Fin.ext ?_⟩
      rw [hb, hplace] at h1
      exact_mod_cast h1
    · rintro ⟨h0, h1⟩
      rw [h0, hplace, h1]
      exact ⟨rfl, rfl⟩
  have hlands : ∀ k : S4x64.Idx, scatter_S4x4096_S4x64x2_S4x64_n_01_01_2.resultIdx? k (targets x) = some (ix2 b p)
      ↔ k 0 = b ∧ sortedFrom (byKey key) ((k 1 : Fin 64).castLE (by norm_num : 64 ≤ 4096)) = p := fun k => by
    refine (iff_of_eq (congrArg (fun q => scatter_S4x4096_S4x64x2_S4x64_n_01_01_2.resultIdx? q (targets x) = some (ix2 b p)) (eq_ix2 k))).trans ?_
    exact hlands2 (k 0) (k 1)
  unfold picked
  rw [ix2_eq_valueIdx, Routing.scatter_col scatter_S4x4096_S1_S4_0_1_1_0 rfl rfl _ _ _ (0 : Fin 4096) (by norm_num) rfl b p, ← ix2_eq_valueIdx]
  by_cases h0 : p = 0
  · rw [if_pos h0, if_pos (Or.inl (show p.val = 0 from congrArg Fin.val h0))]
    rfl
  · rw [if_neg h0]
    have h0' : ¬ p.val = 0 := fun h => h0 (Fin.ext h)
    by_cases hr : rank key p < 64
    · rw [if_pos (Or.inr hr)]
      obtain ⟨i, hi, hip⟩ := (exists_place_iff key 64 p).2 hr
      exact Routing.scatter_set_hit _ _ _ _ _ _ (fun _ _ => rfl) (ix2 b (⟨i.val, hi⟩ : Fin 64)) ((hlands _).2 ⟨rfl, hip⟩)
    · rw [if_neg (by rintro (h | h); exacts [h0' h, hr h])]
      refine Routing.scatter_set_miss _ _ _ _ _ fun k hk' => hr ?_
      exact (exists_place_iff key 64 p).1 ⟨_, (k 1 : Fin 64).isLt, ((hlands k).1 hk').2⟩

/-- The mask over the words of the floats: the order of the sort is the order of the signed sort keys. -/
theorem picked_bits (x : FVec Bits S4x4096 .f32) (b : Fin 4) (p : Fin 4096) :
    picked x (ix2 b p) = if p.val = 0 ∨ rank (fun q => sortableKey (x (ix2 b q))) p < 64 then 1#32 else 0#32 := by
  refine picked_at x b (fun q => sortableKey (x (ix2 b q))) (fun k k' => ?_) p
  rw [cmpfTotal_f32_eq_cmpi_sortableKey]
  unfold byKey
  rw [show CmpDirection.gt.signed = CmpIPredicate.sgt from rfl, WordCmp.cmpi_sgt_eq]
  by_cases h : (sortableKey (x (ix2 b k'))).toInt < (sortableKey (x (ix2 b k))).toInt <;> simp [h]

end Cert.Scored.Hand
-- ==== Proof.KernelValue.lean ====
/- What the kernel's @main returns, in terms of its arguments. -/
module

public import proofs.«01_k».proof.Proof.KernelRun
public import proofs.«01_k».proof.Proof.KernelSelect
public import proofs.«01_k».proof.Proof.ScoredScores
public import Idealize.ShloMosaic.Lib.Pipeline.FrameSuffix

@[expose] public section

set_option maxRecDepth 16384
set_option maxHeartbeats 400000

noncomputable section

namespace Cert.Kernel.Hand

open Cert.Scored.Hand (tile rowScores)
open Cert.Kernel Cert.Kernel.Gen Idealize.ShloMosaic Idealize.ShloMosaic.TcCoe Idealize.SL.Sem Idealize.ShloMosaic.StableHlo

variable {F : FTy → Type} [BitOps F]

/-- What a point stores into its row of the score buffer. -/
theorem pay_rowScores (x w1 : FVec F S1024x2048 .f32) (w2 : FVec F S1x1024 .f32) : k0_pay1 x w1 w2 = rowScores x w1 w2 := by
  unfold k0_pay1
  rw [shapeCast_self]
  exact (shapeCast_self _ _).trans rfl

variable (m : (ℓ : Loc nD τ sig) → Buf (Elt F) ℓ)

/-- Where each window's block lies. -/
theorem idx : ∀ t, win0_0.index t 0 = t.val ∧ win0_0.index t 1 = 0
    ∧ win0_1.index t 0 = 0 ∧ win0_1.index t 1 = 0 ∧ win0_1.index t 2 = 0
    ∧ win0_2.index t 0 = 0 ∧ win0_2.index t 1 = 0 ∧ win0_3.index t 0 = 0 ∧ win0_3.index t 1 = 0 := by decide +kernel

/-- The rows the grid reads are the flattened argument. -/
theorem V_rows (c : Dev nD) : V m c main_call0_v0 = shapeCast S16384x2048 (m ((c.tc : Thread nD τ).loc main_arg0)) shapeCasts_S4x4096x2048_S16384x2048 := by
  simp only [V, V0, hostOps0, List.flatten_cons, List.flatten_nil, List.append_nil]
  after_results_simp
  rfl

/-- The attention mask the grid reads is the argument, tile by tile. -/
theorem V_mask (c : Dev nD) : V m c main_call0_v1 = shapeCast S4x4x1024 (m ((c.tc : Thread nD τ).loc main_arg1)) shapeCasts_S4x4096_S4x4x1024 := by
  simp only [V, V0, hostOps0, List.flatten_cons, List.flatten_nil, List.append_nil]
  after_results_simp
  rfl

/-- The first block: a stretch of rows. -/
theorem blk_x (c : Dev nD) (t : Fin cfg0.N) : (iblk m c 0 t : Vec F S1024x2048 .f32)
    = tile (shapeCast S16384x2048 (m ((c.tc : Thread nD τ).loc main_arg0)) shapeCasts_S4x4096x2048_S16384x2048) (t.cast N_0) := by
  obtain ⟨h0, h1, -⟩ := idx t
  rw [← V_rows]
  unfold iblk tile
  funext y
  blk_ext [h0, h1]
  rfl

/-- The second block: the whole attention mask. -/
theorem blk_mask (c : Dev nD) (t : Fin cfg0.N) : (iblk m c 1 t : Vec F S4x4x1024 .i32)
    = shapeCast S4x4x1024 (m ((c.tc : Thread nD τ).loc main_arg1)) shapeCasts_S4x4096_S4x4x1024 := by
  obtain ⟨-, -, h0, h1, h2, -⟩ := idx t
  rw [← V_mask]
  unfold iblk
  funext y
  blk_ext [h0, h1, h2]

/-- The third block: the first weights. -/
theorem blk_w1 (c : Dev nD) (t : Fin cfg0.N) : (iblk m c 2 t : Vec F S1024x2048 .f32) = m ((c.tc : Thread nD τ).loc main_arg2) := by
  obtain ⟨-, -, -, -, -, h0, h1, -⟩ := idx t
  refine Eq.trans ?_ (V_main_arg2 m c)
  unfold iblk
  funext y
  blk_ext [h0, h1]

/-- The fourth block: the second weights. -/
theorem blk_w2 (c : Dev nD) (t : Fin cfg0.N) : (iblk m c 3 t : Vec F S1x1024 .f32) = m ((c.tc : Thread nD τ).loc main_arg4) := by
  obtain ⟨-, -, -, -, -, -, -, h0, h1⟩ := idx t
  refine Eq.trans ?_ (V_main_arg4 m c)
  unfold iblk
  funext y
  blk_ext [h0, h1]

/-- The score buffer, row by row. -/
theorem scr_eq (c : Dev nD) : scr m c = fun y =>
    rowScores (tile (shapeCast S16384x2048 (m ((c.tc : Thread nD τ).loc main_arg0)) shapeCasts_S4x4096x2048_S16384x2048) (y 0))
      (m ((c.tc : Thread nD τ).loc main_arg2)) (m ((c.tc : Thread nD τ).loc main_arg4)) (ValueIdx.ix2 0 (y 1)) := by
  funext y
  unfold scr
  rw [pay_rowScores, blk_x, blk_w1, blk_w2]
  rfl

/-- The mask, from the arguments. -/
def result (c : Dev nD) : IVec S4x4x1024 32 :=
  maskOf (scr m c) (shapeCast S4x4x1024 (m ((c.tc : Thread nD τ).loc main_arg1)) shapeCasts_S4x4096_S4x4x1024)

/-- The output array ends as the mask. -/
theorem arr_eq (c : Dev nD) : (dats m 0 c).arrAt 4 cfg0.N = result m c := by
  refine (dats m 0 c).arrAt_eq_of_after_last 4 (pt 15) (by decide +kernel) (result m c) fun j => ?_
  blk_simp
  rw [after_4, blk_mask]
  rfl

variable (ρ : Dev nD → PrngReg)

/-- The kernel's result is the mask, and its arguments are unchanged. -/
theorem run_result :
    θ_run defs (onTc (τ := τ) (main (F := F))) ⟨m, fun _ => 0, ρ⟩ fun r => ∀ c : Dev nD,
      r.2.mem ((c.tc : Thread nD τ).loc main_v0) = shapeCast S4x4096 (result m c) shapeCasts_S4x4x1024_S4x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, h.2 c⟩) (θ_run_and (run_main m ρ) (unchanged m ρ))
  refine ((h.1.1 c).2 main_v0 (Pipeline.mem_restRefs_of main_v0 (by decide) (by decide))).trans ?_
  simp only [Pipeline.afterTail₀, Pipeline.afterTail, hostOps1, List.flatten_cons, List.flatten_nil, List.append_nil]
  after_results_simp
  rw [show Pipeline.withArrays (cfgs 0).spec c (V0 m c) (fun w => (dats m 0 c).arrAt w (cfgs 0).N) (Proc.tc.devRef main_call0_v2) = result m c from
    (Pipeline.withArrays_arr spec0 launch0.win.arr_inj c (V0 m c) _ 4).trans (arr_eq m c)]
  rfl

/-- The kernel ends with every semaphore at zero and its arguments unchanged. -/
theorem quiet :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun _ h => ⟨h.1, h.2.2⟩) (θ_run_and (unchanged m ρ) (run_main m ρ))

end Cert.Kernel.Hand
-- ==== Proof.SameMask.lean ====
/- The kernel's mask and the middle program's, from the same arguments. -/
module

public import proofs.«01_k».proof.Proof.KernelSelect
public import proofs.«01_k».proof.Proof.ScoredScores

@[expose] public section

set_option maxRecDepth 16384
set_option maxHeartbeats 400000

noncomputable section

namespace Cert.Hand

open Cert.Scored Cert.Scored.Hand Cert.Kernel.Hand Cert.Kernel.Gen Cert.Hand.Select Idealize.ShloMosaic Idealize.ShloMosaic.StableHlo

/-- The key of a position, from the scores laid out one stretch a row. -/
theorem key_eq (R : Fin 16 → Fin 1024 → Bits .f32) (am : IVec S4x4096 32) (b : Fin 4) (p : Fin 4096) :
    rowKey (F := Bits) (fun y => R (y 0) (y 1)) (shapeCast Cert.Kernel.S4x4x1024 am Cert.Kernel.Gen.shapeCasts_S4x4096_S4x4x1024) b p
      = sortableKey (masked am (shapeCast S4x4096 (fun i : S16x1x1024.Idx => R (i 0) (i 2)) Cert.Scored.Gen.shapeCasts_S16x1x1024_S4x4096) (ix2 b p)) := by
  unfold rowKey k0_pay3 masked
  simp only [id]
  pointwise
  have h : (⟨(tileOf p).val * 1024 + (laneOf p).val, by have := (tileOf p).isLt; have := (laneOf p).isLt; omega⟩ : Fin 4096) = p := by
    apply Fin.ext
    show p.val / 1024 * 1024 + p.val % 1024 = p.val
    omega
  rw [h]
  exact xori_andi_shrsi_eq_sortableKey .vector _

/-- The same scores give the same mask. -/
theorem mask_eq (R : Fin 16 → Fin 1024 → Bits .f32) (am : IVec S4x4096 32) :
    shapeCast S4x4096 (maskOf (F := Bits) (fun y => R (y 0) (y 1)) (shapeCast Cert.Kernel.S4x4x1024 am Cert.Kernel.Gen.shapeCasts_S4x4096_S4x4x1024))
        Cert.Kernel.Gen.shapeCasts_S4x4x1024_S4x4096
      = picked (masked am (shapeCast S4x4096 (fun i : S16x1x1024.Idx => R (i 0) (i 2)) Cert.Scored.Gen.shapeCasts_S16x1x1024_S4x4096)) := by
  have h : ∀ (b : Fin 4) (p : Fin 4096), maskOf (F := Bits) (fun y => R (y 0) (y 1)) (shapeCast Cert.Kernel.S4x4x1024 am Cert.Kernel.Gen.shapeCasts_S4x4096_S4x4x1024)
        (ix3 b (tileOf p) (laneOf p))
      = picked (masked am (shapeCast S4x4096 (fun i : S16x1x1024.Idx => R (i 0) (i 2)) Cert.Scored.Gen.shapeCasts_S16x1x1024_S4x4096)) (ix2 b p) := fun b p => by
    refine (maskOf_row _ _ b p).trans (Eq.trans ?_ (picked_bits _ b p).symm)
    rw [show rowKey (F := Bits) (fun y => R (y 0) (y 1)) (shapeCast Cert.Kernel.S4x4x1024 am Cert.Kernel.Gen.shapeCasts_S4x4096_S4x4x1024) b
      = fun p => sortableKey (masked am (shapeCast S4x4096 (fun i : S16x1x1024.Idx => R (i 0) (i 2)) Cert.Scored.Gen.shapeCasts_S16x1x1024_S4x4096) (ix2 b p))
      from funext fun p => key_eq R am b p]
  have hc : ∀ (u : IVec Cert.Kernel.S4x4x1024 32) (b : Fin 4) (p : Fin 4096),
      shapeCast S4x4096 u Cert.Kernel.Gen.shapeCasts_S4x4x1024_S4x4096 (ix2 b p) = u (ix3 b (tileOf p) (laneOf p)) := fun u b p => by
    pointwise
    rfl
  funext y
  have e : y = ix2 (y 0) (y 1) := by blk_ext
  exact (congrArg _ e).trans ((hc _ _ _).trans ((h _ _).trans (congrArg _ e.symm)))

end Cert.Hand
-- ==== Proof.ReferenceRun.lean ====
/- The reference's run: the scores over the whole array, then the selection. -/
module

public import proofs.«01_k».proof.Proof.ScoredSelect
public import proofs.«01_k».proof.Proof.Gen.ReferenceIdeal
public import Idealize.ShloMosaic.Lib.StableHlo.Run
public import Idealize.ShloMosaic.Lib.Pipeline.FrameSuffix

@[expose] public section

set_option maxRecDepth 16384
set_option maxHeartbeats 2000000

noncomputable section

namespace Cert.ReferenceIdeal.Hand

open Cert.Scored.Hand (pair picked masked)
open Cert.ReferenceIdeal Cert.ReferenceIdeal.Gen Idealize.ShloMosaic Idealize.ShloMosaic.TcCoe Idealize.SL.Sem Idealize.ShloMosaic.StableHlo

variable {F : FTy → Type} [FloatOps F]

/-- The operations of the scores, in order. -/
abbrev scoreOps : List (HloOp τ sig (Elt F)) :=
  [ unary main_arg2 main_v0 ((transpose S2048x1024 [1, 0] · transposes_S1024x2048_S2048x1024_1_0) : (⟨S1024x2048, .f32⟩ : BufTy).Contents (Elt F) → (⟨S2048x1024, .f32⟩ : BufTy).Contents (Elt F)),
    binary main_arg0 main_v0 main_v1 ((fun l r => Host.dotGeneral dot_S4x4096x2048_S2048x1024_S4x4096x1024_2_0_01_1_n_n none l r) : (⟨S4x4096x2048, .f32⟩ : BufTy).Contents (Elt F) → (⟨S2048x1024, .f32⟩ : BufTy).Contents (Elt F) → (⟨S4x4096x1024, .f32⟩ : BufTy).Contents (Elt F)),
    unary main_arg3 main_v2 (broadcastInDim S1x1x1024 ![2] bcast_S1024_S1x1x1024_2 : (⟨S1024, .f32⟩ : BufTy).Contents (Elt F) → (⟨S1x1x1024, .f32⟩ : BufTy).Contents (Elt F)),
    unary main_v2 main_v3 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v1 main_v3 main_v4 (addf : (⟨S4x4096x1024, .f32⟩ : BufTy).Contents (Elt F) → (⟨S4x4096x1024, .f32⟩ : BufTy).Contents (Elt F) → (⟨S4x4096x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x4096x1024, .f32⟩) main_call0_v0) (broadcastInDim S4x4096x1024 ![] bcast_S_S4x4096x1024),
    TRef.binary (TRef.of (T := ⟨S4x4096x1024, .f32⟩) main_v4) (TRef.of (T := ⟨S4x4096x1024, .f32⟩) main_call0_v0) (TRef.of (T := ⟨S4x4096x1024, .f32⟩) main_v5) maximumf,
    unary main_arg4 main_v6 ((transpose S1024x1 [1, 0] · transposes_S1x1024_S1024x1_1_0) : (⟨S1x1024, .f32⟩ : BufTy).Contents (Elt F) → (⟨S1024x1, .f32⟩ : BufTy).Contents (Elt F)),
    binary main_v5 main_v6 main_v7 ((fun l r => Host.dotGeneral dot_S4x4096x1024_S1024x1_S4x4096x1_2_0_01_1_n_n none l r) : (⟨S4x4096x1024, .f32⟩ : BufTy).Contents (Elt F) → (⟨S1024x1, .f32⟩ : BufTy).Contents (Elt F) → (⟨S4x4096x1, .f32⟩ : BufTy).Contents (Elt F)),
    unary main_arg5 main_v8 (broadcastInDim S1x1x1 ![2] bcast_S1_S1x1x1_2 : (⟨S1, .f32⟩ : BufTy).Contents (Elt F) → (⟨S1x1x1, .f32⟩ : BufTy).Contents (Elt F)),
    unary main_v8 main_v9 (broadcastInDim S4x4096x1 ![0, 1, 2] bcast_S1x1x1_S4x4096x1_0_1_2 : (⟨S1x1x1, .f32⟩ : BufTy).Contents (Elt F) → (⟨S4x4096x1, .f32⟩ : BufTy).Contents (Elt F)),
    binary main_v7 main_v9 main_v10 (addf : (⟨S4x4096x1, .f32⟩ : BufTy).Contents (Elt F) → (⟨S4x4096x1, .f32⟩ : BufTy).Contents (Elt F) → (⟨S4x4096x1, .f32⟩ : BufTy).Contents (Elt F)),
    reshape main_v10 main_v11 (rfl : (.f32 : EltTy) = .f32) shapeCasts_S4x4096x1_S4x4096 ]

/-- The operations of the selection, in order. -/
abbrev selectOps : List (HloOp τ sig (Elt F)) :=
  [ nullary main_c (constantI S_ 32 0#32),
    unary main_c main_v12 (broadcastInDim S4x4096 ![] bcast_S_S4x4096 : (⟨S_, .i32⟩ : BufTy).Contents (Elt F) → (⟨S4x4096, .i32⟩ : BufTy).Contents (Elt F)),
    binary main_arg1 main_v12 main_v13 (cmpi .ne : (⟨S4x4096, .i32⟩ : BufTy).Contents (Elt F) → (⟨S4x4096, .i32⟩ : BufTy).Contents (Elt F) → (⟨S4x4096, .i1⟩ : BufTy).Contents (Elt F)),
    unary main_v13 main_v14 (id : (⟨S4x4096, .i1⟩ : BufTy).Contents (Elt F) → (⟨S4x4096, .i1⟩ : BufTy).Contents (Elt F)),
    nullary main_cst (constant S_ .f32 0xFF800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S4x4096, .f32⟩) main_call1_v1) (broadcastInDim S4x4096 ![] bcast_S_S4x4096),
    TRef.ternary (TRef.of (T := ⟨S4x4096, .i1⟩) main_v14) (TRef.of (T := ⟨S4x4096, .f32⟩) main_v11) (TRef.of (T := ⟨S4x4096, .f32⟩) main_call1_v1) (TRef.of (T := ⟨S4x4096, .f32⟩) main_v15) select,
    unary main_v15 main_values ((fun x => (Host.topK S4x64 1 (FloatOps.cmpfTotal .gt) x sliceFits_S4x4096_S4x64).1) : (⟨S4x4096, .f32⟩ : BufTy).Contents (Elt F) → (⟨S4x64, .f32⟩ : BufTy).Contents (Elt F)),
    unary main_v15 main_indices ((fun x => (Host.topK S4x64 1 (FloatOps.cmpfTotal .gt) x sliceFits_S4x4096_S4x64).2) : (⟨S4x4096, .f32⟩ : BufTy).Contents (Elt F) → (⟨S4x64, .i32⟩ : BufTy).Contents (Elt F)),
    nullary main_c_0 (constantI S_ 32 0#32),
    unary main_c_0 main_v16 (broadcastInDim S4x4096 ![] bcast_S_S4x4096 : (⟨S_, .i32⟩ : BufTy).Contents (Elt F) → (⟨S4x4096, .i32⟩ : BufTy).Contents (Elt F)),
    nullary main_v17 (iotaInDim S4 32 0),
    unary main_v17 main_v18 (broadcastInDim S4x1 ![0] bcast_S4_S4x1_0 : (⟨S4, .i32⟩ : BufTy).Contents (Elt F) → (⟨S4x1, .i32⟩ : BufTy).Contents (Elt F)),
    nullary main_c_1 (constantI S_ 32 0#32),
    unary main_c_1 main_v19 (broadcastInDim S4x1 ![] bcast_S_S4x1 : (⟨S_, .i32⟩ : BufTy).Contents (Elt F) → (⟨S4x1, .i32⟩ : BufTy).Contents (Elt F)),
    binary main_v18 main_v19 main_v20 (cmpi .slt : (⟨S4x1, .i32⟩ : BufTy).Contents (Elt F) → (⟨S4x1, .i32⟩ : BufTy).Contents (Elt F) → (⟨S4x1, .i1⟩ : BufTy).Contents (Elt F)),
    nullary main_c_2 (constantI S_ 32 4#32),
    unary main_c_2 main_v21 (broadcastInDim S4x1 ![] bcast_S_S4x1 : (⟨S_, .i32⟩ : BufTy).Contents (Elt F) → (⟨S4x1, .i32⟩ : BufTy).Contents (Elt F)),
    binary main_v18 main_v21 main_v22 (addi : (⟨S4x1, .i32⟩ : BufTy).Contents (Elt F) → (⟨S4x1, .i32⟩ : BufTy).Contents (Elt F) → (⟨S4x1, .i32⟩ : BufTy).Contents (Elt F)),
    ternary main_v20 main_v22 main_v18 main_v23 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_3 (constantI S_ 32 0#32),
    unary main_c_3 main_v24 (broadcastInDim S4x64 ![] bcast_S_S4x64 : (⟨S_, .i32⟩ : BufTy).Contents (Elt F) → (⟨S4x64, .i32⟩ : BufTy).Contents (Elt F)),
    binary main_indices main_v24 main_v25 (cmpi .slt : (⟨S4x64, .i32⟩ : BufTy).Contents (Elt F) → (⟨S4x64, .i32⟩ : BufTy).Contents (Elt F) → (⟨S4x64, .i1⟩ : BufTy).Contents (Elt F)),
    nullary main_c_4 (constantI S_ 32 4096#32),
    unary main_c_4 main_v26 (broadcastInDim S4x64 ![] bcast_S_S4x64 : (⟨S_, .i32⟩ : BufTy).Contents (Elt F) → (⟨S4x64, .i32⟩ : BufTy).Contents (Elt F)),
    binary main_indices main_v26 main_v27 (addi : (⟨S4x64, .i32⟩ : BufTy).Contents (Elt F) → (⟨S4x64, .i32⟩ : BufTy).Contents (Elt F) → (⟨S4x64, .i32⟩ : BufTy).Contents (Elt F)),
    ternary main_v25 main_v27 main_indices main_v28 (select : (⟨S4x64, .i1⟩ : BufTy).Contents (Elt F) → (⟨S4x64, .i32⟩ : BufTy).Contents (Elt F) → (⟨S4x64, .i32⟩ : BufTy).Contents (Elt F) → (⟨S4x64, .i32⟩ : BufTy).Contents (Elt F)),
    unary main_v23 main_v29 (broadcastInDim S4x64 ![0, 1] bcast_S4x1_S4x64_0_1 : (⟨S4x1, .i32⟩ : BufTy).Contents (Elt F) → (⟨S4x64, .i32⟩ : BufTy).Contents (Elt F)),
    unary main_v29 main_v30 (broadcastInDim S4x64x1 ![0, 1] bcast_S4x64_S4x64x1_0_1 : (⟨S4x64, .i32⟩ : BufTy).Contents (Elt F) → (⟨S4x64x1, .i32⟩ : BufTy).Contents (Elt F)),
    unary main_v28 main_v31 (broadcastInDim S4x64x1 ![0, 1] bcast_S4x64_S4x64x1_0_1 : (⟨S4x64, .i32⟩ : BufTy).Contents (Elt F) → (⟨S4x64x1, .i32⟩ : BufTy).Contents (Elt F)),
    binary main_v30 main_v31 main_v32 (pair : (⟨S4x64x1, .i32⟩ : BufTy).Contents (Elt F) → (⟨S4x64x1, .i32⟩ : BufTy).Contents (Elt F) → (⟨S4x64x2, .i32⟩ : BufTy).Contents (Elt F)),
    nullary main_c_5 (constantI S_ 32 1#32),
    unary main_c_5 main_v33 (broadcastInDim S4x64 ![] bcast_S_S4x64 : (⟨S_, .i32⟩ : BufTy).Contents (Elt F) → (⟨S4x64, .i32⟩ : BufTy).Contents (Elt F)),
    ternary main_v16 main_v32 main_v33 main_v34 ((fun x i u => Host.scatter scatter_S4x4096_S4x64x2_S4x64_n_01_01_2 (fun _ b => b) x i u) : (⟨S4x4096, .i32⟩ : BufTy).Contents (Elt F) → (⟨S4x64x2, .i32⟩ : BufTy).Contents (Elt F) → (⟨S4x64, .i32⟩ : BufTy).Contents (Elt F) → (⟨S4x4096, .i32⟩ : BufTy).Contents (Elt F)),
    nullary main_c_6 (constantI S_ 32 0#32),
    unary main_c_6 main_v35 (broadcastInDim S1 ![] bcast_S_S1 : (⟨S_, .i32⟩ : BufTy).Contents (Elt F) → (⟨S1, .i32⟩ : BufTy).Contents (Elt F)),
    nullary main_c_7 (constantI S_ 32 1#32),
    unary main_c_7 main_v36 (broadcastInDim S4 ![] bcast_S_S4 : (⟨S_, .i32⟩ : BufTy).Contents (Elt F) → (⟨S4, .i32⟩ : BufTy).Contents (Elt F)),
    ternary main_v34 main_v35 main_v36 main_v37 ((fun x i u => Host.scatter scatter_S4x4096_S1_S4_0_1_1_0 (fun _ b => b) x i u) : (⟨S4x4096, .i32⟩ : BufTy).Contents (Elt F) → (⟨S1, .i32⟩ : BufTy).Contents (Elt F) → (⟨S4, .i32⟩ : BufTy).Contents (Elt F) → (⟨S4x4096, .i32⟩ : BufTy).Contents (Elt F)) ]

/-- The program is its two lists of operations, one after the other. -/
theorem main_ops (c : Dev nD) : main (F := F) c = seq (scoreOps ++ selectOps) := rfl
theorem no_scoped_refs : (Finset.univ.filter fun b : Ref sig .tc => b.isScoped) = ∅ := by decide
theorem no_scoped_sems : (Finset.univ.filter fun sm : SemLoc sig => sm.isScoped .tc) = ∅ := by decide
/-- Every operation touches arrays of the program only. -/
theorem ops_bufs : (scoreOps ++ selectOps : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., nullary_bufs_sub .., unary_bufs_sub .., binary_bufs_sub .., unary_bufs_sub .., nullary_bufs_sub .., unary_bufs_sub .., unary_bufs_sub .., ternary_bufs_sub .., unary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., nullary_bufs_sub .., unary_bufs_sub .., ternary_bufs_sub ..⟩

/-- The scores: both layers with their biases. -/
def scores (x : FVec F S4x4096x2048 .f32) (w1 : FVec F S1024x2048 .f32) (b1 : FVec F S1024 .f32) (w2 : FVec F S1x1024 .f32) (b2 : FVec F S1 .f32) : FVec F S4x4096 .f32 :=
  shapeCast S4x4096
    (addf
      (Host.dotGeneral dot_S4x4096x1024_S1024x1_S4x4096x1_2_0_01_1_n_n none
        (maximumf
          (addf (Host.dotGeneral dot_S4x4096x2048_S2048x1024_S4x4096x1024_2_0_01_1_n_n none x (transpose S2048x1024 [1, 0] w1 transposes_S1024x2048_S2048x1024_1_0))
            (broadcastInDim S4x4096x1024 ![0, 1, 2] bcast_S1x1x1024_S4x4096x1024_0_1_2 (broadcastInDim S1x1x1024 ![2] bcast_S1024_S1x1x1024_2 b1)))
          (broadcastInDim S4x4096x1024 ![] bcast_S_S4x4096x1024 (constant S_ .f32 0x00000000#32)))
        (transpose S1024x1 [1, 0] w2 transposes_S1x1024_S1024x1_1_0))
      (broadcastInDim S4x4096x1 ![0, 1, 2] bcast_S1x1x1_S4x4096x1_0_1_2 (broadcastInDim S1x1x1 ![2] bcast_S1_S1x1x1_2 b2)))
    shapeCasts_S4x4096x1_S4x4096

/-- The first list leaves the scores of the arguments. -/
theorem score_value (V0 : Valuation τ sig (Elt F)) :
    after scoreOps V0 (Proc.devRef .tc main_v11)
      = scores (V0 (Proc.devRef .tc main_arg0)) (V0 (Proc.devRef .tc main_arg2)) (V0 (Proc.devRef .tc main_arg3)) (V0 (Proc.devRef .tc main_arg4)) (V0 (Proc.devRef .tc main_arg5)) := by
  simp only [scoreOps, TRef.binary, TRef.nullary, TRef.ternary, TRef.unary, TRef.toBuf, TRef.ofBuf, cast_eq]
  after_results_simp
  rfl

/-- The first list leaves the mask as it was. -/
theorem score_arg1 (V0 : Valuation τ sig (Elt F)) : after scoreOps V0 (Proc.devRef .tc main_arg1) = V0 (Proc.devRef .tc main_arg1) := by
  simp only [scoreOps, TRef.binary, TRef.nullary, TRef.ternary, TRef.unary, TRef.toBuf, TRef.ofBuf, cast_eq]
  after_results_simp

/-- The second list selects from the masked scores. -/
theorem select_value (V0 : Valuation τ sig (Elt F)) :
    after selectOps V0 (Proc.devRef .tc main_v37) = picked (masked (V0 (Proc.devRef .tc main_arg1)) (V0 (Proc.devRef .tc main_v11))) := by
  simp only [selectOps, TRef.binary, TRef.nullary, TRef.ternary, TRef.unary, TRef.toBuf, TRef.ofBuf, cast_eq]
  after_results_simp
  rfl

variable (m : (ℓ : Loc nD τ sig) → Buf (Elt F) ℓ)

/-- Every run ends with the selection from the masked scores of the arguments, the arguments unchanged. -/
theorem run_picked (ρ : Dev nD → PrngReg) :
    θ_run defs (onTc (τ := τ) (main (F := F))) ⟨m, fun _ => 0, ρ⟩ fun r => ∀ c : Dev nD,
      r.2.mem ((c.tc : Thread nD τ).loc main_v37)
          = picked (masked (m ((c.tc : Thread nD τ).loc main_arg1)) (scores (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨?_, ?_, ?_, ?_, ?_, ?_, ?_⟩)
    (run_seq no_scoped_refs no_scoped_sems defs main (fun _ => scoreOps ++ selectOps) main_ops (fun _ => ops_bufs) m ρ)
  · refine (h c main_v37).trans ?_
    rw [after_append, select_value, score_value, score_arg1]
  · refine (h c main_arg0).trans ?_
    simp only [scoreOps, selectOps, List.cons_append, List.nil_append, TRef.binary, TRef.nullary, TRef.ternary, TRef.unary, TRef.toBuf, TRef.ofBuf, cast_eq]
    after_results_simp
  · refine (h c main_arg1).trans ?_
    simp only [scoreOps, selectOps, List.cons_append, List.nil_append, TRef.binary, TRef.nullary, TRef.ternary, TRef.unary, TRef.toBuf, TRef.ofBuf, cast_eq]
    after_results_simp
  · refine (h c main_arg2).trans ?_
    simp only [scoreOps, selectOps, List.cons_append, List.nil_append, TRef.binary, TRef.nullary, TRef.ternary, TRef.unary, TRef.toBuf, TRef.ofBuf, cast_eq]
    after_results_simp
  · refine (h c main_arg3).trans ?_
    simp only [scoreOps, selectOps, List.cons_append, List.nil_append, TRef.binary, TRef.nullary, TRef.ternary, TRef.unary, TRef.toBuf, TRef.ofBuf, cast_eq]
    after_results_simp
  · refine (h c main_arg4).trans ?_
    simp only [scoreOps, selectOps, List.cons_append, List.nil_append, TRef.binary, TRef.nullary, TRef.ternary, TRef.unary, TRef.toBuf, TRef.ofBuf, cast_eq]
    after_results_simp
  · refine (h c main_arg5).trans ?_
    simp only [scoreOps, selectOps, List.cons_append, List.nil_append, TRef.binary, TRef.nullary, TRef.ternary, TRef.unary, TRef.toBuf, TRef.ofBuf, cast_eq]
    after_results_simp

end Cert.ReferenceIdeal.Hand
-- ==== Proof.Exact.lean ====
/- The kernel and the middle program return the same words; every program ends quietly. -/
module

public import proofs.«01_k».proof.Defs
public import proofs.«01_k».proof.Proof.KernelValue
public import proofs.«01_k».proof.Proof.SameMask
public import proofs.«01_k».proof.Proof.ReferenceRun

@[expose] public section

set_option maxRecDepth 16384
set_option maxHeartbeats 400000

noncomputable section

namespace Cert.Hand

open Idealize.ShloMosaic Idealize.ShloMosaic.TcCoe Idealize.SL.Sem Cert.Scored.Hand

/-- From equal arguments the kernel's mask is the middle program's, word for word. -/
theorem result_eq (m : (ℓ : Loc Cert.Kernel.nD Cert.Kernel.τ Cert.Kernel.sig) → Buf (Elt Bits) ℓ)
    (m' : (ℓ : Loc Cert.Scored.nD Cert.Scored.τ Cert.Scored.sig) → Buf (Elt Bits) ℓ) (c : Dev 1)
    (h0 : m' ((c.tc : Thread Cert.Scored.nD Cert.Scored.τ).loc Cert.Scored.main_arg0) = m ((c.tc : Thread Cert.Kernel.nD Cert.Kernel.τ).loc Cert.Kernel.main_arg0))
    (h1 : m' ((c.tc : Thread Cert.Scored.nD Cert.Scored.τ).loc Cert.Scored.main_arg1) = m ((c.tc : Thread Cert.Kernel.nD Cert.Kernel.τ).loc Cert.Kernel.main_arg1))
    (h2 : m' ((c.tc : Thread Cert.Scored.nD Cert.Scored.τ).loc Cert.Scored.main_arg2) = m ((c.tc : Thread Cert.Kernel.nD Cert.Kernel.τ).loc Cert.Kernel.main_arg2))
    (h4 : m' ((c.tc : Thread Cert.Scored.nD Cert.Scored.τ).loc Cert.Scored.main_arg4) = m ((c.tc : Thread Cert.Kernel.nD Cert.Kernel.τ).loc Cert.Kernel.main_arg4)) :
    picked (masked (m' ((c.tc : Thread Cert.Scored.nD Cert.Scored.τ).loc Cert.Scored.main_arg1)) (shapeCast Cert.Scored.S4x4096 (scores m' c) Cert.Scored.Gen.shapeCasts_S16x1x1024_S4x4096))
      = shapeCast Cert.Kernel.S4x4096 (Cert.Kernel.Hand.result m c) Cert.Kernel.Gen.shapeCasts_S4x4x1024_S4x4096 := by
  rw [scores_eq, h0, h1, h2, h4]
  unfold Cert.Kernel.Hand.result
  rw [Cert.Kernel.Hand.scr_eq]
  exact (mask_eq (fun t j => rowScores (tile (shapeCast Cert.Kernel.S16384x2048 (m ((c.tc : Thread Cert.Kernel.nD Cert.Kernel.τ).loc Cert.Kernel.main_arg0)) Cert.Kernel.Gen.shapeCasts_S4x4096x2048_S16384x2048) t)
      (m ((c.tc : Thread Cert.Kernel.nD Cert.Kernel.τ).loc Cert.Kernel.main_arg2)) (m ((c.tc : Thread Cert.Kernel.nD Cert.Kernel.τ).loc Cert.Kernel.main_arg4)) (ix2 0 j)) _).symm

/-- The kernel and the middle program agree word for word. -/
theorem kernel_scored : Cert.bitexact_Kernel_Scored := by
  intro m g m' g' _ h
  refine ⟨fun c => shapeCast Cert.Kernel.S4x4096 (Cert.Kernel.Hand.result m c) Cert.Kernel.Gen.shapeCasts_S4x4x1024_S4x4096,
    Cert.Kernel.Hand.run_result m g, ?_⟩
  refine (θ_run _ _ _).mono (fun r hr c => ⟨(hr c).1.trans ?_, (hr c).2⟩) (run_picked m' g')
  exact result_eq m m' c (h c).1 (h c).2.1 (h c).2.2.1 (h c).2.2.2.2.1

/-- The reference ends with its arguments unchanged and, declaring no semaphore, with none raised. -/
theorem reference_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0 := by
  refine (θ_run _ _ _).mono (fun r hr => ⟨fun c => (hr c).2, ?_⟩) (Cert.ReferenceIdeal.Hand.run_picked m g)
  funext s
  exact ((by decide : ∀ s : SemLoc Cert.ReferenceIdeal.sig, False) s.2).elim

end Cert.Hand
-- ==== Proof.ScoredIdealRun.lean ====
/- The run of the middle program over the extended reals: the region's scores, then the selection. -/
module

public import proofs.«01_k».proof.Proof.ScoredSelect
public import proofs.«01_k».proof.Proof.Gen.ScoredIdeal.Frame
public import Idealize.ShloMosaic.Lib.StableHlo.Run
public import Idealize.ShloMosaic.Lib.Pipeline.FrameSuffix

@[expose] public section

set_option maxRecDepth 16384
set_option maxHeartbeats 2000000

noncomputable section

namespace Cert.ScoredIdeal.Hand

open Cert.Scored.Hand (pair picked masked)
open Cert.ScoredIdeal Cert.ScoredIdeal.Gen Idealize.ShloMosaic Idealize.ShloMosaic.TcCoe Idealize.SL.Sem Idealize.ShloMosaic.StableHlo

variable {F : FTy → Type} [FloatOps F]

/-- The operation that lays two columns side by side, by its name. -/
theorem pair_def : (fun a b => concatenate S4x64x2 2 [⟨S4x64x1, a⟩, ⟨S4x64x1, b⟩] concatenates_S4x64x1_S4x64x1_S4x64x2_d2
    : (⟨S4x64x1, .i32⟩ : BufTy).Contents (Elt F) → (⟨S4x64x1, .i32⟩ : BufTy).Contents (Elt F) → (⟨S4x64x2, .i32⟩ : BufTy).Contents (Elt F)) = Cert.Scored.Hand.pair := rfl

/-- The operations after the region, from any contents: the selection from the masked scores. -/
theorem tail_picked (V0 : Valuation τ sig (Elt F)) :
    after (List.flatten [Gen.hostOps1, Gen.hostOps1_1, Gen.hostOps1_2]) V0 (Proc.devRef .tc main_v28)
      = picked (masked (V0 (Proc.devRef .tc main_arg1)) (shapeCast S4x4096 (V0 (Proc.devRef .tc main_v1)) shapeCasts_S16x1x1024_S4x4096)) := by
  simp only [Gen.hostOps1, Gen.hostOps1_1, Gen.hostOps1_2, TRef.ternary, TRef.unary, TRef.toBuf, TRef.ofBuf, cast_eq, List.flatten_cons, List.flatten_nil, List.append_nil, List.cons_append, List.nil_append]
  rw [pair_def]
  after_results_simp
  rfl

variable (m : (ℓ : Loc nD τ sig) → Buf (Elt F) ℓ)

/-- What the region leaves in its array of scores. -/
def scores (c : Dev nD) : FVec F S16x1x1024 .f32 := (Gen.dats m 0 c).arrAt 3 cfg0.N

/-- The result is the selection from the masked scores of the region. -/
theorem run_picked (ρ : Dev nD → PrngReg) :
    θ_run defs (onTc (τ := τ) (main (F := F))) ⟨m, fun _ => 0, ρ⟩ fun r => ∀ c : Dev nD,
      r.2.mem ((c.tc : Thread nD τ).loc main_v28)
          = picked (masked (m ((c.tc : Thread nD τ).loc main_arg1)) (shapeCast S4x4096 (scores m c) shapeCasts_S16x1x1024_S4x4096))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨?_, ?_, ?_, ?_, ?_, ?_, ?_⟩) (Gen.run_main m ρ)
  · refine ((h c).2 main_v28 (Pipeline.mem_restRefs_of main_v28 (by decide) (by decide))).trans ?_
    refine (tail_picked (Pipeline.withArrays spec0 c (Gen.V0 m c) fun w => (Gen.dats m 0 c).arrAt w cfg0.N)).trans ?_
    rw [show Pipeline.withArrays spec0 c (Gen.V0 m c) (fun w => (Gen.dats m 0 c).arrAt w cfg0.N) (Proc.devRef .tc main_arg1) = m ((c.tc : Thread nD τ).loc main_arg1) from
        (Pipeline.withArrays_of_ne _ c (Gen.V0 m c) _ main_arg1 (by exact (by decide : ∀ w, Pipeline.arrRef spec0 w ≠ main_arg1))).trans (Gen.V_main_arg1 m c),
      show Pipeline.withArrays spec0 c (Gen.V0 m c) (fun w => (Gen.dats m 0 c).arrAt w cfg0.N) (Proc.devRef .tc main_v1) = scores m c from
        Pipeline.withArrays_arr spec0 Gen.launch0.win.arr_inj c (Gen.V0 m c) _ 3]
  · exact ((h c).2 main_arg0 (Pipeline.mem_restRefs_of main_arg0 (by decide) (by decide))).trans (Gen.W_main_arg0 m (Gen.dats m) c)
  · exact ((h c).2 main_arg1 (Pipeline.mem_restRefs_of main_arg1 (by decide) (by decide))).trans (Gen.W_main_arg1 m (Gen.dats m) c)
  · exact ((h c).1 1).trans (((Gen.dats m 0 c).arrAt_in 1 rfl _).trans ((Gen.A_eq m c 1).trans (Gen.V_main_arg2 m c)))
  · exact ((h c).2 main_arg3 (Pipeline.mem_restRefs_of main_arg3 (by decide) (by decide))).trans (Gen.W_main_arg3 m (Gen.dats m) c)
  · exact ((h c).1 2).trans (((Gen.dats m 0 c).arrAt_in 2 rfl _).trans ((Gen.A_eq m c 2).trans (Gen.V_main_arg4 m c)))
  · exact ((h c).2 main_arg5 (Pipeline.mem_restRefs_of main_arg5 (by decide) (by decide))).trans (Gen.W_main_arg5 m (Gen.dats m) c)

end Cert.ScoredIdeal.Hand
-- ==== Proof.ScoredIdealScores.lean ====
/- The idealized middle program's scores, block by block, in terms of its arguments. -/
module

public import proofs.«01_k».proof.Proof.ScoredIdealRun
public import proofs.«01_k».proof.Proof.ScoredScores
public import Idealize.ShloMosaic.Lib.Pipeline.ValueKit
public import Idealize.ShloMosaic.Lib.Pointwise

@[expose] public section

set_option maxRecDepth 16384
set_option maxHeartbeats 400000

noncomputable section

namespace Cert.ScoredIdeal.Hand

open Cert.Scored.Hand (tile rowScores)
open Cert.ScoredIdeal Cert.ScoredIdeal.Gen Idealize.ShloMosaic Idealize.ShloMosaic.TcCoe Idealize.SL.Sem Idealize.ShloMosaic.StableHlo

variable {F : FTy → Type} [FloatOps F]

/-- What a point stores, read at a lane. -/
theorem pay_at (x w1 : FVec F S1024x2048 .f32) (w2 : FVec F S1x1024 .f32) (j : Fin 1024) :
    k0_pay1 x w1 w2 (ix3 0 0 j) = rowScores x w1 w2 (ix2 0 j) := by
  unfold k0_pay1
  rw [shapeCast_self]
  change shapeCast S1x1x1024 (rowScores x w1 w2) _ (ix3 0 0 j) = _
  pointwise

variable (m : (ℓ : Loc nD τ sig) → Buf (Elt F) ℓ)

/-- Where each window's block lies. -/
theorem idx : ∀ t, win0_0.index t 0 = t.val ∧ win0_0.index t 1 = 0 ∧ win0_1.index t 0 = 0 ∧ win0_1.index t 1 = 0 ∧ win0_2.index t 0 = 0 ∧ win0_2.index t 1 = 0
    ∧ win0_3.index t 0 = t.val ∧ win0_3.index t 1 = 0 ∧ win0_3.index t 2 = 0 := by decide +kernel

/-- The rows the grid reads are the flattened argument. -/
theorem V_rows (c : Dev nD) : V m c main_v0 = shapeCast S16384x2048 (m ((c.tc : Thread nD τ).loc main_arg0)) shapeCasts_S4x4096x2048_S16384x2048 := by
  simp only [V, V0, Gen.hostOps0, List.flatten_cons, List.flatten_nil, List.append_nil]
  after_results_simp
  rfl

/-- The first block: a stretch of rows. -/
theorem blk_x (c : Dev nD) (t : Fin cfg0.N) : (iblk m c 0 t : Vec F S1024x2048 .f32)
    = tile (shapeCast S16384x2048 (m ((c.tc : Thread nD τ).loc main_arg0)) shapeCasts_S4x4096x2048_S16384x2048) (t.cast N_0) := by
  obtain ⟨h0, h1, -⟩ := idx t
  rw [← V_rows]
  unfold iblk tile
  funext y
  blk_ext [h0, h1]
  rfl

/-- The second block: the first weights. -/
theorem blk_w1 (c : Dev nD) (t : Fin cfg0.N) : (iblk m c 1 t : Vec F S1024x2048 .f32) = m ((c.tc : Thread nD τ).loc main_arg2) := by
  obtain ⟨-, -, h0, h1, -⟩ := idx t
  refine Eq.trans ?_ (V_main_arg2 m c)
  unfold iblk
  funext y
  blk_ext [h0, h1]

/-- The third block: the second weights. -/
theorem blk_w2 (c : Dev nD) (t : Fin cfg0.N) : (iblk m c 2 t : Vec F S1x1024 .f32) = m ((c.tc : Thread nD τ).loc main_arg4) := by
  obtain ⟨-, -, -, -, h0, h1, -⟩ := idx t
  refine Eq.trans ?_ (V_main_arg4 m c)
  unfold iblk
  funext y
  blk_ext [h0, h1]

/-- The array of scores: stretch by stretch. -/
theorem scores_eq (c : Dev nD) : scores m c = fun i =>
    rowScores (tile (shapeCast S16384x2048 (m ((c.tc : Thread nD τ).loc main_arg0)) shapeCasts_S4x4096x2048_S16384x2048) (i 0))
      (m ((c.tc : Thread nD τ).loc main_arg2)) (m ((c.tc : Thread nD τ).loc main_arg4)) (ix2 0 (i 2)) := by
  unfold scores
  refine (dats m 0 c).arrAt_eq_of_covers 3 _ (by decide +kernel) fun t hf y => ?_
  obtain ⟨-, -, -, -, -, -, h0, h1, h2⟩ := idx t
  blk_simp
  rw [after0_3]
  frame_out
  have e : (y : S1x1x1024.Idx) = ix3 0 0 (y 2) := by blk_ext
  have e0 : ((View.whole main_v1).slice (win0_3.rect t)).emb y 0 = t.cast N_0 := by
    apply Fin.ext
    blk_simp [h0]
    rfl
  have e2 : ((View.whole main_v1).slice (win0_3.rect t)).emb y 2 = y 2 := by
    apply Fin.ext
    blk_simp [h2]
  rw [e0, e2, blk_x, blk_w1, blk_w2]
  exact (congrArg _ e).trans (pay_at _ _ _ _)

end Cert.ScoredIdeal.Hand
-- ==== Proof.Algebra.lean ====
/- Over the extended reals, the middle program's scores are the reference's where the biases are zero. -/
module

public import proofs.«01_k».proof.Defs
public import proofs.«01_k».proof.Proof.ScoredIdealScores
public import proofs.«01_k».proof.Proof.ReferenceRun
public import proofs.«01_k».proof.Proof.Gen.Pre_zero_biases
public import Idealize.ShloMosaic.Lib.Pointwise
public import Idealize.ShloMosaic.Lib.Pointwise.Contract
public import Idealize.ShloMosaic.Lib.ReduceAll
public import Idealize.ShloMosaic.Lib.Affine

@[expose] public section

set_option maxRecDepth 16384
set_option maxHeartbeats 400000

noncomputable section

namespace Cert.Hand

open Idealize.ShloMosaic Idealize.ShloMosaic.TcCoe Idealize.SL.Sem Cert.Scored.Hand

/-- One score of a stretch of rows: the second layer's products with the first layer's clipped ones. -/
theorem rowScores_at (x w1 : FVec Ideal Cert.Scored.S1024x2048 .f32) (w2 : FVec Ideal Cert.Scored.S1x1024 .f32) (j : Fin 1024) :
    rowScores x w1 w2 (ix2 0 j) = ∑ k : Fin 1024, w2 (ix2 0 k) * max (∑ l : Fin 2048, x (ix2 j l) * w1 (ix2 k l)) 0 := by
  unfold rowScores
  pointwise

/-- One of the reference's scores. -/
theorem scores_at (x : FVec Ideal Cert.ReferenceIdeal.S4x4096x2048 .f32) (w1 : FVec Ideal Cert.ReferenceIdeal.S1024x2048 .f32) (b1 : FVec Ideal Cert.ReferenceIdeal.S1024 .f32)
    (w2 : FVec Ideal Cert.ReferenceIdeal.S1x1024 .f32) (b2 : FVec Ideal Cert.ReferenceIdeal.S1 .f32) (b : Fin 4) (p : Fin 4096) :
    Cert.ReferenceIdeal.Hand.scores x w1 b1 w2 b2 (ix2 b p)
      = (∑ k : Fin 1024, max ((∑ l : Fin 2048, x (ix3 b p l) * w1 (ix2 k l)) + b1 (ix1 k)) 0 * w2 (ix2 0 k)) + b2 (ix1 0) := by
  unfold Cert.ReferenceIdeal.Hand.scores
  pointwise

/-- With zero biases the two programs' scores agree. -/
theorem scores_agree (x : FVec Ideal Cert.Scored.S4x4096x2048 .f32) (w1 : FVec Ideal Cert.Scored.S1024x2048 .f32) (b1 : FVec Ideal Cert.ReferenceIdeal.S1024 .f32)
    (w2 : FVec Ideal Cert.Scored.S1x1024 .f32) (b2 : FVec Ideal Cert.ReferenceIdeal.S1 .f32) (h1 : ∀ k : Fin 1024, b1 (ix1 k) = 0) (h2 : b2 (ix1 0) = 0) :
    shapeCast Cert.Scored.S4x4096 (fun i : Cert.Scored.S16x1x1024.Idx =>
        rowScores (tile (shapeCast Cert.Scored.S16384x2048 x Cert.Scored.Gen.shapeCasts_S4x4096x2048_S16384x2048) (i 0)) w1 w2 (ix2 0 (i 2))) Cert.Scored.Gen.shapeCasts_S16x1x1024_S4x4096
      = Cert.ReferenceIdeal.Hand.scores x w1 b1 w2 b2 := by
  have h : ∀ (b : Fin 4) (p : Fin 4096), shapeCast Cert.Scored.S4x4096 (fun i : Cert.Scored.S16x1x1024.Idx =>
        rowScores (tile (shapeCast Cert.Scored.S16384x2048 x Cert.Scored.Gen.shapeCasts_S4x4096x2048_S16384x2048) (i 0)) w1 w2 (ix2 0 (i 2))) Cert.Scored.Gen.shapeCasts_S16x1x1024_S4x4096 (ix2 b p)
      = Cert.ReferenceIdeal.Hand.scores x w1 b1 w2 b2 (ix2 b p) := fun b p => by
    rw [scores_at, h2, add_zero]
    refine Eq.trans (b := rowScores (tile (shapeCast Cert.Scored.S16384x2048 x Cert.Scored.Gen.shapeCasts_S4x4096x2048_S16384x2048) ⟨b.val * 4 + p.val / 1024, by omega⟩) w1 w2 (ix2 0 ⟨p.val % 1024, by omega⟩)) ?_ ?_
    · pointwise
    · rw [rowScores_at]
      refine Finset.sum_congr rfl fun k _ => ?_
      rw [h1, add_zero, mul_comm]
      congr 2
      refine Finset.sum_congr rfl fun l _ => ?_
      congr 1
      unfold tile
      pointwise
  funext y
  have e : y = ix2 (y 0) (y 1) := by blk_ext
  exact (congrArg _ e).trans ((h _ _).trans (congrArg _ e.symm))

/-- What the precondition says of the biases. -/
theorem biases_zero (x : FVec Ideal Cert.Pre_zero_biases.S4x4096x2048 .f32) (am : IVec Cert.Pre_zero_biases.S4x4096 32) (w1 : FVec Ideal Cert.Pre_zero_biases.S1024x2048 .f32) (b1 : FVec Ideal Cert.Pre_zero_biases.S1024 .f32)
    (w2 : FVec Ideal Cert.Pre_zero_biases.S1x1024 .f32) (b2 : FVec Ideal Cert.Pre_zero_biases.S1 .f32)
    (h : Cert.Pre_zero_biases.fn (F := Ideal) x am w1 b1 w2 b2 = fun _ => 1#1) : (∀ k : Fin 1024, b1 (ix1 k) = 0) ∧ b2 (ix1 0) = 0 := by
  have h' := congrFun h ix0
  unfold Cert.Pre_zero_biases.fn at h'
  obtain ⟨e1, e2⟩ := IntOp.andi_eq_one.mp h'
  have z : ∀ v : Ideal .f32, FloatOps.cmpf (F := Ideal) .oeq v 0 = 1#1 → v = 0 := fun v hv => by
    simp only [Ideal.cmpf_def, Ideal.cmp] at hv
    by_contra hne
    simp [hne] at hv
  refine ⟨fun k => z _ ?_, z _ ?_⟩
  · have := Host.reduce_andi_all _ _ _ _ _ e1 (ix1 k)
    revert this
    pointwise
    exact id
  · have := Host.reduce_andi_all _ _ _ _ _ e2 (ix1 0)
    revert this
    pointwise
    exact id

/-- Under zero biases the middle program and the reference return the same words over the extended reals. -/
theorem scored_reference : Cert.algebraic_ScoredIdeal_ReferenceIdeal_pre_zero_biases := by
  intro m g m' g' hp h
  refine ⟨fun c => picked (masked (m ((c.tc : Thread Cert.ScoredIdeal.nD Cert.ScoredIdeal.τ).loc Cert.ScoredIdeal.main_arg1))
      (shapeCast Cert.ScoredIdeal.S4x4096 (Cert.ScoredIdeal.Hand.scores m c) Cert.ScoredIdeal.Gen.shapeCasts_S16x1x1024_S4x4096)),
    Cert.ScoredIdeal.Hand.run_picked m g, ?_⟩
  refine (θ_run _ _ _).mono (fun r hr c => ⟨(hr c).1.trans ?_, (hr c).2⟩) (Cert.ReferenceIdeal.Hand.run_picked m' g')
  obtain ⟨h1, h2⟩ := biases_zero _ _ _ _ _ _ (hp c)
  beta_reduce
  rw [Cert.ScoredIdeal.Hand.scores_eq, (h c).1, (h c).2.1, (h c).2.2.1, (h c).2.2.2.1, (h c).2.2.2.2.1, (h c).2.2.2.2.2]
  exact congrArg (fun s => picked (masked (m ((c.tc : Thread Cert.ScoredIdeal.nD Cert.ScoredIdeal.τ).loc Cert.ScoredIdeal.main_arg1)) s))
    (scores_agree _ _ _ _ _ h1 h2).symm

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Scored
public import proofs.«01_k».proof.Proof.Gen.Scored.Skeleton
public import proofs.«01_k».proof.Proof.Gen.Scored.Launch
public import proofs.«01_k».proof.Proof.Gen.Scored.Points
public import proofs.«01_k».proof.Proof.Gen.Scored.Frame
public import proofs.«01_k».proof.Proof.Gen.ScoredIdeal
public import proofs.«01_k».proof.Proof.Gen.ScoredIdeal.Skeleton
public import proofs.«01_k».proof.Proof.Gen.ScoredIdeal.Launch
public import proofs.«01_k».proof.Proof.Gen.ScoredIdeal.Points
public import proofs.«01_k».proof.Proof.Gen.ScoredIdeal.Frame
public import proofs.«01_k».proof.Proof.Gen.ReferenceIdeal
public import proofs.«01_k».proof.Proof.Gen.Pre_zero_biases
public import proofs.«01_k».proof.Proof.Exact
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Scored.Gen.facts, Cert.ScoredIdeal.Gen.facts, Cert.ReferenceIdeal.Gen.facts, Cert.Pre_zero_biases.Gen.facts,
  fun m g _ => Cert.Kernel.Hand.quiet m g, fun m g _ => Cert.Scored.Gen.frame m g,
  fun m g _ => Cert.ScoredIdeal.Gen.frame m g, fun m g _ => Cert.ScoredIdeal.Gen.frame m g,
  fun m g _ => Cert.Hand.reference_quiet m g, fun m g _ => Cert.Hand.reference_quiet m g,
  Cert.Hand.kernel_scored, trivial, Cert.Hand.scored_reference⟩

end Cert.Proof

end
